-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 2048]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 256]⟩ ⟨2, ![4, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x512x256 : Shape := ⟨3, ![4, 512, 256]⟩
abbrev S4x256 : Shape := ⟨2, ![4, 256]⟩
abbrev S256x256 : Shape := ⟨2, ![256, 256]⟩
abbrev S2048x256 : Shape := ⟨2, ![2048, 256]⟩
abbrev S1792x256 : Shape := ⟨2, ![1792, 256]⟩
abbrev S512x256 : Shape := ⟨2, ![512, 256]⟩
abbrev S14 : Shape := ⟨1, ![14]⟩
abbrev S_ : Shape := ⟨0, ![]⟩
abbrev S1x512x256 : Shape := ⟨3, ![1, 512, 256]⟩
abbrev S1x256 : Shape := ⟨2, ![1, 256]⟩
abbrev S256 : Shape := ⟨1, ![256]⟩
abbrev S1x1x256 : Shape := ⟨3, ![1, 1, 256]⟩
abbrev S1x511x256 : Shape := ⟨3, ![1, 511, 256]⟩
abbrev S1x2x256 : Shape := ⟨3, ![1, 2, 256]⟩
abbrev S1x510x256 : Shape := ⟨3, ![1, 510, 256]⟩
abbrev S1x3x256 : Shape := ⟨3, ![1, 3, 256]⟩
abbrev S1x509x256 : Shape := ⟨3, ![1, 509, 256]⟩
abbrev S1 : Shape := ⟨1, ![1]⟩
abbrev S128x256 : Shape := ⟨2, ![128, 256]⟩
abbrev S1x128x256 : Shape := ⟨3, ![1, 128, 256]⟩

abbrev nBuf : Space → Nat
  | .hbm => 4
  | .vmem => 8
  | .smem => 0
  | _ => 0

abbrev bufTy : (tb : Table) → Fin (tcTables nBuf tb) → BufTy
  | .hbm, ⟨0, _⟩ => ⟨S4x512x256, .f32⟩
  | .hbm, ⟨1, _⟩ => ⟨S4x256, .f32⟩
  | .hbm, ⟨2, _⟩ => ⟨S256x256, .f32⟩
  | .hbm, ⟨3, _⟩ => ⟨S4x512x256, .f32⟩
  | .local _ .vmem, ⟨0, _⟩ => ⟨S4x512x256, .f32⟩
  | .local _ .vmem, ⟨1, _⟩ => ⟨S4x256, .f32⟩
  | .local _ .vmem, ⟨2, _⟩ => ⟨S256x256, .f32⟩
  | .local _ .vmem, ⟨3, _⟩ => ⟨S4x512x256, .f32⟩
  | .local _ .vmem, ⟨4, _⟩ => ⟨S2048x256, .bf16⟩
  | .local _ .vmem, ⟨5, _⟩ => ⟨S1792x256, .bf16⟩
  | .local _ .vmem, ⟨6, _⟩ => ⟨S2048x256, .bf16⟩
  | .local _ .vmem, ⟨7, _⟩ => ⟨S512x256, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  (ofTc nBuf bufTy 1 60 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_13 : BitVec 32 := 0#32
  let v29 : BitVec 32 := Scalar.xori v20 c0_i32_13
  let c4_i32_14 : BitVec 32 := 4#32
  let v30 : BitVec 32 := Scalar.muli v29 c4_i32_14
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_12 : BitVec 32 := 0#32
  let v28 : BitVec 32 := Scalar.xori v26 c0_i32_12
  let c2_i32 : BitVec 32 := 2#32
  let v31 : BitVec 32 := Scalar.muli v28 c2_i32
  let v32 : BitVec 32 := Scalar.addi v30 v31
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_11 : BitVec 32 := 1#32
  let v27 : BitVec 32 := Scalar.xori v24 c1_i32_11
  let v33 : BitVec 32 := Scalar.xori v27 v28
  let v34 : BitVec 32 := Scalar.addi v32 v33
  let c1_i32_67 : BitVec 32 := 1#32
  let v124 : BitVec 32 := Scalar.muli v34 c1_i32_67
  let v125 : BitVec 32 := Scalar.addi c0_i32_68 v124
  v125.toNat
def k0_dev2 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_17 : BitVec 32 := 1#32
  let v42 : BitVec 32 := Scalar.xori v20 c1_i32_17
  let c4_i32_18 : BitVec 32 := 4#32
  let v43 : BitVec 32 := Scalar.muli v42 c4_i32_18
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_16 : BitVec 32 := 0#32
  let v41 : BitVec 32 := Scalar.xori v26 c0_i32_16
  let c2_i32_19 : BitVec 32 := 2#32
  let v44 : BitVec 32 := Scalar.muli v41 c2_i32_19
  let v45 : BitVec 32 := Scalar.addi v43 v44
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_15 : BitVec 32 := 1#32
  let v40 : BitVec 32 := Scalar.xori v24 c1_i32_15
  let v46 : BitVec 32 := Scalar.xori v40 v41
  let v47 : BitVec 32 := Scalar.addi v45 v46
  let c1_i32_70 : BitVec 32 := 1#32
  let v126 : BitVec 32 := Scalar.muli v47 c1_i32_70
  let v127 : BitVec 32 := Scalar.addi c0_i32_71 v126
  v127.toNat
def k0_dev3 (d0 : Dev nD) : Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_25 : BitVec 32 := 0#32
  let v55 : BitVec 32 := Scalar.xori v20 c0_i32_25
  let c4_i32_26 : BitVec 32 := 4#32
  let v56 : BitVec 32 := Scalar.muli v55 c4_i32_26
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_24 : BitVec 32 := 1#32
  let v54 : BitVec 32 := Scalar.xori v26 c1_i32_24
  let c2_i32_27 : BitVec 32 := 2#32
  let v57 : BitVec 32 := Scalar.muli v54 c2_i32_27
  let v58 : BitVec 32 := Scalar.addi v56 v57
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_23 : BitVec 32 := 1#32
  let v53 : BitVec 32 := Scalar.xori v24 c1_i32_23
  let v59 : BitVec 32 := Scalar.xori v53 v54
  let v60 : BitVec 32 := Scalar.addi v58 v59
  let c1_i32_73 : BitVec 32 := 1#32
  let v128 : BitVec 32 := Scalar.muli v60 c1_i32_73
  let v129 : BitVec 32 := Scalar.addi c0_i32_74 v128
  v129.toNat
def k0_dev4 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v68 : BitVec 32 := Scalar.xori v20 c1_i32_33
  let c4_i32_34 : BitVec 32 := 4#32
  let v69 : BitVec 32 := Scalar.muli v68 c4_i32_34
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_32 : BitVec 32 := 1#32
  let v67 : BitVec 32 := Scalar.xori v26 c1_i32_32
  let c2_i32_35 : BitVec 32 := 2#32
  let v70 : BitVec 32 := Scalar.muli v67 c2_i32_35
  let v71 : BitVec 32 := Scalar.addi v69 v70
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_31 : BitVec 32 := 1#32
  let v66 : BitVec 32 := Scalar.xori v24 c1_i32_31
  let v72 : BitVec 32 := Scalar.xori v66 v67
  let v73 : BitVec 32 := Scalar.addi v71 v72
  let c1_i32_76 : BitVec 32 := 1#32
  let v130 : BitVec 32 := Scalar.muli v73 c1_i32_76
  let v131 : BitVec 32 := Scalar.addi c0_i32_77 v130
  v131.toNat
def k0_dev5 (d0 : Dev nD) : Nat :=
  let c0_i32_80 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_41 : BitVec 32 := 0#32
  let v81 : BitVec 32 := Scalar.xori v20 c0_i32_41
  let c4_i32_42 : BitVec 32 := 4#32
  let v82 : BitVec 32 := Scalar.muli v81 c4_i32_42
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_40 : BitVec 32 := 1#32
  let v80 : BitVec 32 := Scalar.xori v26 c1_i32_40
  let c2_i32_43 : BitVec 32 := 2#32
  let v83 : BitVec 32 := Scalar.muli v80 c2_i32_43
  let v84 : BitVec 32 := Scalar.addi v82 v83
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_39 : BitVec 32 := 0#32
  let v79 : BitVec 32 := Scalar.xori v24 c0_i32_39
  let v85 : BitVec 32 := Scalar.xori v79 v80
  let v86 : BitVec 32 := Scalar.addi v84 v85
  let c1_i32_79 : BitVec 32 := 1#32
  let v132 : BitVec 32 := Scalar.muli v86 c1_i32_79
  let v133 : BitVec 32 := Scalar.addi c0_i32_80 v132
  v133.toNat
def k0_dev6 (d0 : Dev nD) : Nat :=
  let c0_i32_83 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_49 : BitVec 32 := 1#32
  let v94 : BitVec 32 := Scalar.xori v20 c1_i32_49
  let c4_i32_50 : BitVec 32 := 4#32
  let v95 : BitVec 32 := Scalar.muli v94 c4_i32_50
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_48 : BitVec 32 := 1#32
  let v93 : BitVec 32 := Scalar.xori v26 c1_i32_48
  let c2_i32_51 : BitVec 32 := 2#32
  let v96 : BitVec 32 := Scalar.muli v93 c2_i32_51
  let v97 : BitVec 32 := Scalar.addi v95 v96
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_47 : BitVec 32 := 0#32
  let v92 : BitVec 32 := Scalar.xori v24 c0_i32_47
  let v98 : BitVec 32 := Scalar.xori v92 v93
  let v99 : BitVec 32 := Scalar.addi v97 v98
  let c1_i32_82 : BitVec 32 := 1#32
  let v134 : BitVec 32 := Scalar.muli v99 c1_i32_82
  let v135 : BitVec 32 := Scalar.addi c0_i32_83 v134
  v135.toNat
def k0_dev7 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_57 : BitVec 32 := 1#32
  let v107 : BitVec 32 := Scalar.xori v20 c1_i32_57
  let c4_i32_58 : BitVec 32 := 4#32
  let v108 : BitVec 32 := Scalar.muli v107 c4_i32_58
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_56 : BitVec 32 := 0#32
  let v106 : BitVec 32 := Scalar.xori v26 c0_i32_56
  let c2_i32_59 : BitVec 32 := 2#32
  let v109 : BitVec 32 := Scalar.muli v106 c2_i32_59
  let v110 : BitVec 32 := Scalar.addi v108 v109
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_55 : BitVec 32 := 0#32
  let v105 : BitVec 32 := Scalar.xori v24 c0_i32_55
  let v111 : BitVec 32 := Scalar.xori v105 v106
  let v112 : BitVec 32 := Scalar.addi v110 v111
  let c1_i32_85 : BitVec 32 := 1#32
  let v136 : BitVec 32 := Scalar.muli v112 c1_i32_85
  let v137 : BitVec 32 := Scalar.addi c0_i32_86 v136
  v137.toNat
def k0_off1 (d0 : Dev nD) (c1_i32_88 : BitVec 32) (c0_i32_90 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let v141 : BitVec 32 := Scalar.xori v24 c1_i32_88
  let c2_i32_89 : BitVec 32 := 2#32
  let v142 : BitVec 32 := Scalar.muli v141 c2_i32_89
  let c1_i32_9 : BitVec 32 := 1#32
  let v25 : BitVec 32 := Scalar.shrsi v3 c1_i32_9
  let c1_i32_10 : BitVec 32 := 1#32
  let v26 : BitVec 32 := Scalar.andi v25 c1_i32_10
  let v143 : BitVec 32 := Scalar.xori v26 c0_i32_90
  let v144 : BitVec 32 := Scalar.addi v142 v143
  let v145 : Index := Scalar.indexCast v144
  let c0_91 : Index := 0#32
  let c0_92 : Index := 0#32
  ![v145.toNat, 0, 0]
def k0_off2 (d0 : Dev nD) (c1_i32_88 : BitVec 32) (c0_i32_90 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let v141 : BitVec 32 := Scalar.xori v24 c1_i32_88
  let c2_i32_89 : BitVec 32 := 2#32
  let v142 : BitVec 32 := Scalar.muli v141 c2_i32_89
  let c1_i32_9 : BitVec 32 := 1#32
  let v25 : BitVec 32 := Scalar.shrsi v3 c1_i32_9
  let c1_i32_10 : BitVec 32 := 1#32
  let v26 : BitVec 32 := Scalar.andi v25 c1_i32_10
  let v143 : BitVec 32 := Scalar.xori v26 c0_i32_90
  let v144 : BitVec 32 := Scalar.addi v142 v143
  let c512_i32_101 : BitVec 32 := 512#32
  let v186 : BitVec 32 := Scalar.muli v144 c512_i32_101
  let v187 : Index := Scalar.indexCast v186
  let c0_102 : Index := 0#32
  ![v187.toNat, 0]
def k0_off3 (d0 : Dev nD) (c1_i32_11 : BitVec 32) (c0_i32_12 : BitVec 32) (c0_i32_13 : BitVec 32) (c0_i32_103 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let v27 : BitVec 32 := Scalar.xori v24 c1_i32_11
  let c1024_i32 : BitVec 32 := 1024#32
  let v35 : BitVec 32 := Scalar.muli v27 c1024_i32
  let c1_i32_9 : BitVec 32 := 1#32
  let v25 : BitVec 32 := Scalar.shrsi v3 c1_i32_9
  let c1_i32_10 : BitVec 32 := 1#32
  let v26 : BitVec 32 := Scalar.andi v25 c1_i32_10
  let v28 : BitVec 32 := Scalar.xori v26 c0_i32_12
  let c512_i32 : BitVec 32 := 512#32
  let v36 : BitVec 32 := Scalar.muli v28 c512_i32
  let v37 : BitVec 32 := Scalar.addi v35 v36
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.xori v20 c0_i32_13
  let c256_i32 : BitVec 32 := 256#32
  let v38 : BitVec 32 := Scalar.muli v29 c256_i32
  let v39 : BitVec 32 := Scalar.addi v37 v38
  let v191 : BitVec 32 := Scalar.addi v39 c0_i32_103
  let c0_i32_110 : BitVec 32 := 0#32
  ![v191.toNat, 0]
def k0_off3_at (r : Fin 14) : BitVec 32 × BitVec 32 × BitVec 32 × BitVec 32 :=
  if r.val < 7 then
    if r.val < 3 then
      if r.val < 1 then
        (1#32, 0#32, 0#32, 0#32)
      else
        if r.val < 2 then
          (1#32, 0#32, 0#32, 128#32)
        else
          (1#32, 0#32, 1#32, 0#32)
    else
      if r.val < 5 then
        if r.val < 4 then
          (1#32, 0#32, 1#32, 128#32)
        else
          (1#32, 1#32, 0#32, 0#32)
      else
        if r.val < 6 then
          (1#32, 1#32, 0#32, 128#32)
        else
          (1#32, 1#32, 1#32, 0#32)
  else
    if r.val < 10 then
      if r.val < 8 then
        (1#32, 1#32, 1#32, 128#32)
      else
        if r.val < 9 then
          (0#32, 1#32, 0#32, 0#32)
        else
          (0#32, 1#32, 0#32, 128#32)
    else
      if r.val < 12 then
        if r.val < 11 then
          (0#32, 1#32, 1#32, 0#32)
        else
          (0#32, 1#32, 1#32, 128#32)
      else
        if r.val < 13 then
          (0#32, 0#32, 1#32, 0#32)
        else
          (0#32, 0#32, 1#32, 128#32)
def k0_dev8 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_13 : BitVec 32 := 0#32
  let v29 : BitVec 32 := Scalar.xori v20 c0_i32_13
  let c4_i32_14 : BitVec 32 := 4#32
  let v30 : BitVec 32 := Scalar.muli v29 c4_i32_14
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_12 : BitVec 32 := 0#32
  let v28 : BitVec 32 := Scalar.xori v26 c0_i32_12
  let c2_i32 : BitVec 32 := 2#32
  let v31 : BitVec 32 := Scalar.muli v28 c2_i32
  let v32 : BitVec 32 := Scalar.addi v30 v31
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_11 : BitVec 32 := 1#32
  let v27 : BitVec 32 := Scalar.xori v24 c1_i32_11
  let v33 : BitVec 32 := Scalar.xori v27 v28
  let v34 : BitVec 32 := Scalar.addi v32 v33
  let c1_i32_106 : BitVec 32 := 1#32
  let v192 : BitVec 32 := Scalar.muli v34 c1_i32_106
  let v193 : BitVec 32 := Scalar.addi c0_i32_107 v192
  v193.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_13 : BitVec 32 := 0#32
  let v29 : BitVec 32 := Scalar.xori v20 c0_i32_13
  let c4_i32_14 : BitVec 32 := 4#32
  let v30 : BitVec 32 := Scalar.muli v29 c4_i32_14
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_12 : BitVec 32 := 0#32
  let v28 : BitVec 32 := Scalar.xori v26 c0_i32_12
  let c2_i32 : BitVec 32 := 2#32
  let v31 : BitVec 32 := Scalar.muli v28 c2_i32
  let v32 : BitVec 32 := Scalar.addi v30 v31
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_11 : BitVec 32 := 1#32
  let v27 : BitVec 32 := Scalar.xori v24 c1_i32_11
  let v33 : BitVec 32 := Scalar.xori v27 v28
  let v34 : BitVec 32 := Scalar.addi v32 v33
  let c1_i32_113 : BitVec 32 := 1#32
  let v201 : BitVec 32 := Scalar.muli v34 c1_i32_113
  let v202 : BitVec 32 := Scalar.addi c0_i32_114 v201
  v202.toNat
def k0_dev10 (d0 : Dev nD) : Nat :=
  let c0_i32_121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_17 : BitVec 32 := 1#32
  let v42 : BitVec 32 := Scalar.xori v20 c1_i32_17
  let c4_i32_18 : BitVec 32 := 4#32
  let v43 : BitVec 32 := Scalar.muli v42 c4_i32_18
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_16 : BitVec 32 := 0#32
  let v41 : BitVec 32 := Scalar.xori v26 c0_i32_16
  let c2_i32_19 : BitVec 32 := 2#32
  let v44 : BitVec 32 := Scalar.muli v41 c2_i32_19
  let v45 : BitVec 32 := Scalar.addi v43 v44
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_15 : BitVec 32 := 1#32
  let v40 : BitVec 32 := Scalar.xori v24 c1_i32_15
  let v46 : BitVec 32 := Scalar.xori v40 v41
  let v47 : BitVec 32 := Scalar.addi v45 v46
  let c1_i32_120 : BitVec 32 := 1#32
  let v210 : BitVec 32 := Scalar.muli v47 c1_i32_120
  let v211 : BitVec 32 := Scalar.addi c0_i32_121 v210
  v211.toNat
def k0_dev11 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_17 : BitVec 32 := 1#32
  let v42 : BitVec 32 := Scalar.xori v20 c1_i32_17
  let c4_i32_18 : BitVec 32 := 4#32
  let v43 : BitVec 32 := Scalar.muli v42 c4_i32_18
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_16 : BitVec 32 := 0#32
  let v41 : BitVec 32 := Scalar.xori v26 c0_i32_16
  let c2_i32_19 : BitVec 32 := 2#32
  let v44 : BitVec 32 := Scalar.muli v41 c2_i32_19
  let v45 : BitVec 32 := Scalar.addi v43 v44
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_15 : BitVec 32 := 1#32
  let v40 : BitVec 32 := Scalar.xori v24 c1_i32_15
  let v46 : BitVec 32 := Scalar.xori v40 v41
  let v47 : BitVec 32 := Scalar.addi v45 v46
  let c1_i32_128 : BitVec 32 := 1#32
  let v219 : BitVec 32 := Scalar.muli v47 c1_i32_128
  let v220 : BitVec 32 := Scalar.addi c0_i32_129 v219
  v220.toNat
def k0_dev12 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_25 : BitVec 32 := 0#32
  let v55 : BitVec 32 := Scalar.xori v20 c0_i32_25
  let c4_i32_26 : BitVec 32 := 4#32
  let v56 : BitVec 32 := Scalar.muli v55 c4_i32_26
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_24 : BitVec 32 := 1#32
  let v54 : BitVec 32 := Scalar.xori v26 c1_i32_24
  let c2_i32_27 : BitVec 32 := 2#32
  let v57 : BitVec 32 := Scalar.muli v54 c2_i32_27
  let v58 : BitVec 32 := Scalar.addi v56 v57
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_23 : BitVec 32 := 1#32
  let v53 : BitVec 32 := Scalar.xori v24 c1_i32_23
  let v59 : BitVec 32 := Scalar.xori v53 v54
  let v60 : BitVec 32 := Scalar.addi v58 v59
  let c1_i32_155 : BitVec 32 := 1#32
  let v278 : BitVec 32 := Scalar.muli v60 c1_i32_155
  let v279 : BitVec 32 := Scalar.addi c0_i32_156 v278
  v279.toNat
def k0_dev13 (d0 : Dev nD) : Nat :=
  let c0_i32_163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_25 : BitVec 32 := 0#32
  let v55 : BitVec 32 := Scalar.xori v20 c0_i32_25
  let c4_i32_26 : BitVec 32 := 4#32
  let v56 : BitVec 32 := Scalar.muli v55 c4_i32_26
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_24 : BitVec 32 := 1#32
  let v54 : BitVec 32 := Scalar.xori v26 c1_i32_24
  let c2_i32_27 : BitVec 32 := 2#32
  let v57 : BitVec 32 := Scalar.muli v54 c2_i32_27
  let v58 : BitVec 32 := Scalar.addi v56 v57
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_23 : BitVec 32 := 1#32
  let v53 : BitVec 32 := Scalar.xori v24 c1_i32_23
  let v59 : BitVec 32 := Scalar.xori v53 v54
  let v60 : BitVec 32 := Scalar.addi v58 v59
  let c1_i32_162 : BitVec 32 := 1#32
  let v287 : BitVec 32 := Scalar.muli v60 c1_i32_162
  let v288 : BitVec 32 := Scalar.addi c0_i32_163 v287
  v288.toNat
def k0_dev14 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v68 : BitVec 32 := Scalar.xori v20 c1_i32_33
  let c4_i32_34 : BitVec 32 := 4#32
  let v69 : BitVec 32 := Scalar.muli v68 c4_i32_34
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_32 : BitVec 32 := 1#32
  let v67 : BitVec 32 := Scalar.xori v26 c1_i32_32
  let c2_i32_35 : BitVec 32 := 2#32
  let v70 : BitVec 32 := Scalar.muli v67 c2_i32_35
  let v71 : BitVec 32 := Scalar.addi v69 v70
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_31 : BitVec 32 := 1#32
  let v66 : BitVec 32 := Scalar.xori v24 c1_i32_31
  let v72 : BitVec 32 := Scalar.xori v66 v67
  let v73 : BitVec 32 := Scalar.addi v71 v72
  let c1_i32_168 : BitVec 32 := 1#32
  let v296 : BitVec 32 := Scalar.muli v73 c1_i32_168
  let v297 : BitVec 32 := Scalar.addi c0_i32_169 v296
  v297.toNat
def k0_dev15 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v68 : BitVec 32 := Scalar.xori v20 c1_i32_33
  let c4_i32_34 : BitVec 32 := 4#32
  let v69 : BitVec 32 := Scalar.muli v68 c4_i32_34
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_32 : BitVec 32 := 1#32
  let v67 : BitVec 32 := Scalar.xori v26 c1_i32_32
  let c2_i32_35 : BitVec 32 := 2#32
  let v70 : BitVec 32 := Scalar.muli v67 c2_i32_35
  let v71 : BitVec 32 := Scalar.addi v69 v70
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_31 : BitVec 32 := 1#32
  let v66 : BitVec 32 := Scalar.xori v24 c1_i32_31
  let v72 : BitVec 32 := Scalar.xori v66 v67
  let v73 : BitVec 32 := Scalar.addi v71 v72
  let c1_i32_174 : BitVec 32 := 1#32
  let v305 : BitVec 32 := Scalar.muli v73 c1_i32_174
  let v306 : BitVec 32 := Scalar.addi c0_i32_175 v305
  v306.toNat
def k0_dev16 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_41 : BitVec 32 := 0#32
  let v81 : BitVec 32 := Scalar.xori v20 c0_i32_41
  let c4_i32_42 : BitVec 32 := 4#32
  let v82 : BitVec 32 := Scalar.muli v81 c4_i32_42
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_40 : BitVec 32 := 1#32
  let v80 : BitVec 32 := Scalar.xori v26 c1_i32_40
  let c2_i32_43 : BitVec 32 := 2#32
  let v83 : BitVec 32 := Scalar.muli v80 c2_i32_43
  let v84 : BitVec 32 := Scalar.addi v82 v83
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_39 : BitVec 32 := 0#32
  let v79 : BitVec 32 := Scalar.xori v24 c0_i32_39
  let v85 : BitVec 32 := Scalar.xori v79 v80
  let v86 : BitVec 32 := Scalar.addi v84 v85
  let c1_i32_200 : BitVec 32 := 1#32
  let v364 : BitVec 32 := Scalar.muli v86 c1_i32_200
  let v365 : BitVec 32 := Scalar.addi c0_i32_201 v364
  v365.toNat
def k0_dev17 (d0 : Dev nD) : Nat :=
  let c0_i32_208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_41 : BitVec 32 := 0#32
  let v81 : BitVec 32 := Scalar.xori v20 c0_i32_41
  let c4_i32_42 : BitVec 32 := 4#32
  let v82 : BitVec 32 := Scalar.muli v81 c4_i32_42
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_40 : BitVec 32 := 1#32
  let v80 : BitVec 32 := Scalar.xori v26 c1_i32_40
  let c2_i32_43 : BitVec 32 := 2#32
  let v83 : BitVec 32 := Scalar.muli v80 c2_i32_43
  let v84 : BitVec 32 := Scalar.addi v82 v83
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_39 : BitVec 32 := 0#32
  let v79 : BitVec 32 := Scalar.xori v24 c0_i32_39
  let v85 : BitVec 32 := Scalar.xori v79 v80
  let v86 : BitVec 32 := Scalar.addi v84 v85
  let c1_i32_207 : BitVec 32 := 1#32
  let v373 : BitVec 32 := Scalar.muli v86 c1_i32_207
  let v374 : BitVec 32 := Scalar.addi c0_i32_208 v373
  v374.toNat
def k0_dev18 (d0 : Dev nD) : Nat :=
  let c0_i32_214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_49 : BitVec 32 := 1#32
  let v94 : BitVec 32 := Scalar.xori v20 c1_i32_49
  let c4_i32_50 : BitVec 32 := 4#32
  let v95 : BitVec 32 := Scalar.muli v94 c4_i32_50
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_48 : BitVec 32 := 1#32
  let v93 : BitVec 32 := Scalar.xori v26 c1_i32_48
  let c2_i32_51 : BitVec 32 := 2#32
  let v96 : BitVec 32 := Scalar.muli v93 c2_i32_51
  let v97 : BitVec 32 := Scalar.addi v95 v96
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_47 : BitVec 32 := 0#32
  let v92 : BitVec 32 := Scalar.xori v24 c0_i32_47
  let v98 : BitVec 32 := Scalar.xori v92 v93
  let v99 : BitVec 32 := Scalar.addi v97 v98
  let c1_i32_213 : BitVec 32 := 1#32
  let v382 : BitVec 32 := Scalar.muli v99 c1_i32_213
  let v383 : BitVec 32 := Scalar.addi c0_i32_214 v382
  v383.toNat
def k0_dev19 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_49 : BitVec 32 := 1#32
  let v94 : BitVec 32 := Scalar.xori v20 c1_i32_49
  let c4_i32_50 : BitVec 32 := 4#32
  let v95 : BitVec 32 := Scalar.muli v94 c4_i32_50
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_48 : BitVec 32 := 1#32
  let v93 : BitVec 32 := Scalar.xori v26 c1_i32_48
  let c2_i32_51 : BitVec 32 := 2#32
  let v96 : BitVec 32 := Scalar.muli v93 c2_i32_51
  let v97 : BitVec 32 := Scalar.addi v95 v96
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_47 : BitVec 32 := 0#32
  let v92 : BitVec 32 := Scalar.xori v24 c0_i32_47
  let v98 : BitVec 32 := Scalar.xori v92 v93
  let v99 : BitVec 32 := Scalar.addi v97 v98
  let c1_i32_219 : BitVec 32 := 1#32
  let v391 : BitVec 32 := Scalar.muli v99 c1_i32_219
  let v392 : BitVec 32 := Scalar.addi c0_i32_220 v391
  v392.toNat
def k0_dev20 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_57 : BitVec 32 := 1#32
  let v107 : BitVec 32 := Scalar.xori v20 c1_i32_57
  let c4_i32_58 : BitVec 32 := 4#32
  let v108 : BitVec 32 := Scalar.muli v107 c4_i32_58
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_56 : BitVec 32 := 0#32
  let v106 : BitVec 32 := Scalar.xori v26 c0_i32_56
  let c2_i32_59 : BitVec 32 := 2#32
  let v109 : BitVec 32 := Scalar.muli v106 c2_i32_59
  let v110 : BitVec 32 := Scalar.addi v108 v109
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_55 : BitVec 32 := 0#32
  let v105 : BitVec 32 := Scalar.xori v24 c0_i32_55
  let v111 : BitVec 32 := Scalar.xori v105 v106
  let v112 : BitVec 32 := Scalar.addi v110 v111
  let c1_i32_246 : BitVec 32 := 1#32
  let v453 : BitVec 32 := Scalar.muli v112 c1_i32_246
  let v454 : BitVec 32 := Scalar.addi c0_i32_247 v453
  v454.toNat
def k0_dev21 (d0 : Dev nD) : Nat :=
  let c0_i32_253 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_57 : BitVec 32 := 1#32
  let v107 : BitVec 32 := Scalar.xori v20 c1_i32_57
  let c4_i32_58 : BitVec 32 := 4#32
  let v108 : BitVec 32 := Scalar.muli v107 c4_i32_58
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_56 : BitVec 32 := 0#32
  let v106 : BitVec 32 := Scalar.xori v26 c0_i32_56
  let c2_i32_59 : BitVec 32 := 2#32
  let v109 : BitVec 32 := Scalar.muli v106 c2_i32_59
  let v110 : BitVec 32 := Scalar.addi v108 v109
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_55 : BitVec 32 := 0#32
  let v105 : BitVec 32 := Scalar.xori v24 c0_i32_55
  let v111 : BitVec 32 := Scalar.xori v105 v106
  let v112 : BitVec 32 := Scalar.addi v110 v111
  let c1_i32_252 : BitVec 32 := 1#32
  let v462 : BitVec 32 := Scalar.muli v112 c1_i32_252
  let v463 : BitVec 32 := Scalar.addi c0_i32_253 v462
  v463.toNat
def k0_off4 (d0 : Dev nD) (c0_i32_257 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_256 : BitVec 32 := 256#32
  let v470 : BitVec 32 := Scalar.muli v20 c256_i32_256
  let v471 : BitVec 32 := Scalar.addi v470 c0_i32_257
  let v472 : Index := Scalar.indexCast v471
  let c0_258 : Index := 0#32
  ![v472.toNat, 0]
def k0_off5 (d0 : Dev nD) (c0_i32_323 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1024_i32_63 : BitVec 32 := 1024#32
  let v118 : BitVec 32 := Scalar.muli v24 c1024_i32_63
  let c1_i32_9 : BitVec 32 := 1#32
  let v25 : BitVec 32 := Scalar.shrsi v3 c1_i32_9
  let c1_i32_10 : BitVec 32 := 1#32
  let v26 : BitVec 32 := Scalar.andi v25 c1_i32_10
  let c512_i32_64 : BitVec 32 := 512#32
  let v119 : BitVec 32 := Scalar.muli v26 c512_i32_64
  let v120 : BitVec 32 := Scalar.addi v118 v119
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_65 : BitVec 32 := 256#32
  let v121 : BitVec 32 := Scalar.muli v20 c256_i32_65
  let v122 : BitVec 32 := Scalar.addi v120 v121
  let v538 : BitVec 32 := Scalar.addi v122 c0_i32_323
  let v539 : Index := Scalar.indexCast v538
  let c0_324 : Index := 0#32
  ![v539.toNat, 0]
def k0_off6 (d0 : Dev nD) (c0_i32_327 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c2_i32_325 : BitVec 32 := 2#32
  let v543 : BitVec 32 := Scalar.muli v24 c2_i32_325
  let c1_i32_9 : BitVec 32 := 1#32
  let v25 : BitVec 32 := Scalar.shrsi v3 c1_i32_9
  let c1_i32_10 : BitVec 32 := 1#32
  let v26 : BitVec 32 := Scalar.andi v25 c1_i32_10
  let v544 : BitVec 32 := Scalar.addi v543 v26
  let v547 : Index := Scalar.indexCast v544
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_326 : BitVec 32 := 256#32
  let v545 : BitVec 32 := Scalar.muli v20 c256_i32_326
  let v546 : BitVec 32 := Scalar.addi v545 c0_i32_327
  let v548 : Index := Scalar.indexCast v546
  let c0_328 : Index := 0#32
  ![v547.toNat, v548.toNat, 0]
def k0_off7 (d0 : Dev nD) (c0_i32_330 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1024_i32_63 : BitVec 32 := 1024#32
  let v118 : BitVec 32 := Scalar.muli v24 c1024_i32_63
  let c1_i32_9 : BitVec 32 := 1#32
  let v25 : BitVec 32 := Scalar.shrsi v3 c1_i32_9
  let c1_i32_10 : BitVec 32 := 1#32
  let v26 : BitVec 32 := Scalar.andi v25 c1_i32_10
  let c512_i32_64 : BitVec 32 := 512#32
  let v119 : BitVec 32 := Scalar.muli v26 c512_i32_64
  let v120 : BitVec 32 := Scalar.addi v118 v119
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c256_i32_65 : BitVec 32 := 256#32
  let v121 : BitVec 32 := Scalar.muli v20 c256_i32_65
  let v122 : BitVec 32 := Scalar.addi v120 v121
  let v553 : BitVec 32 := Scalar.addi v122 c0_i32_330
  let c0_i32_335 : BitVec 32 := 0#32
  ![v553.toNat, 0]
def k0_dev22 (d0 : Dev nD) : Nat :=
  let c0_i32_334 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_13 : BitVec 32 := 0#32
  let v29 : BitVec 32 := Scalar.xori v20 c0_i32_13
  let c4_i32_14 : BitVec 32 := 4#32
  let v30 : BitVec 32 := Scalar.muli v29 c4_i32_14
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_12 : BitVec 32 := 0#32
  let v28 : BitVec 32 := Scalar.xori v26 c0_i32_12
  let c2_i32 : BitVec 32 := 2#32
  let v31 : BitVec 32 := Scalar.muli v28 c2_i32
  let v32 : BitVec 32 := Scalar.addi v30 v31
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_11 : BitVec 32 := 1#32
  let v27 : BitVec 32 := Scalar.xori v24 c1_i32_11
  let v33 : BitVec 32 := Scalar.xori v27 v28
  let v34 : BitVec 32 := Scalar.addi v32 v33
  let c1_i32_333 : BitVec 32 := 1#32
  let v554 : BitVec 32 := Scalar.muli v34 c1_i32_333
  let v555 : BitVec 32 := Scalar.addi c0_i32_334 v554
  v555.toNat
def k0_dev23 (d0 : Dev nD) : Nat :=
  let c0_i32_342 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_17 : BitVec 32 := 1#32
  let v42 : BitVec 32 := Scalar.xori v20 c1_i32_17
  let c4_i32_18 : BitVec 32 := 4#32
  let v43 : BitVec 32 := Scalar.muli v42 c4_i32_18
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_16 : BitVec 32 := 0#32
  let v41 : BitVec 32 := Scalar.xori v26 c0_i32_16
  let c2_i32_19 : BitVec 32 := 2#32
  let v44 : BitVec 32 := Scalar.muli v41 c2_i32_19
  let v45 : BitVec 32 := Scalar.addi v43 v44
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_15 : BitVec 32 := 1#32
  let v40 : BitVec 32 := Scalar.xori v24 c1_i32_15
  let v46 : BitVec 32 := Scalar.xori v40 v41
  let v47 : BitVec 32 := Scalar.addi v45 v46
  let c1_i32_341 : BitVec 32 := 1#32
  let v564 : BitVec 32 := Scalar.muli v47 c1_i32_341
  let v565 : BitVec 32 := Scalar.addi c0_i32_342 v564
  v565.toNat
def k0_dev24 (d0 : Dev nD) : Nat :=
  let c0_i32_350 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_25 : BitVec 32 := 0#32
  let v55 : BitVec 32 := Scalar.xori v20 c0_i32_25
  let c4_i32_26 : BitVec 32 := 4#32
  let v56 : BitVec 32 := Scalar.muli v55 c4_i32_26
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_24 : BitVec 32 := 1#32
  let v54 : BitVec 32 := Scalar.xori v26 c1_i32_24
  let c2_i32_27 : BitVec 32 := 2#32
  let v57 : BitVec 32 := Scalar.muli v54 c2_i32_27
  let v58 : BitVec 32 := Scalar.addi v56 v57
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_23 : BitVec 32 := 1#32
  let v53 : BitVec 32 := Scalar.xori v24 c1_i32_23
  let v59 : BitVec 32 := Scalar.xori v53 v54
  let v60 : BitVec 32 := Scalar.addi v58 v59
  let c1_i32_349 : BitVec 32 := 1#32
  let v574 : BitVec 32 := Scalar.muli v60 c1_i32_349
  let v575 : BitVec 32 := Scalar.addi c0_i32_350 v574
  v575.toNat
def k0_dev25 (d0 : Dev nD) : Nat :=
  let c0_i32_358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v68 : BitVec 32 := Scalar.xori v20 c1_i32_33
  let c4_i32_34 : BitVec 32 := 4#32
  let v69 : BitVec 32 := Scalar.muli v68 c4_i32_34
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_32 : BitVec 32 := 1#32
  let v67 : BitVec 32 := Scalar.xori v26 c1_i32_32
  let c2_i32_35 : BitVec 32 := 2#32
  let v70 : BitVec 32 := Scalar.muli v67 c2_i32_35
  let v71 : BitVec 32 := Scalar.addi v69 v70
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_31 : BitVec 32 := 1#32
  let v66 : BitVec 32 := Scalar.xori v24 c1_i32_31
  let v72 : BitVec 32 := Scalar.xori v66 v67
  let v73 : BitVec 32 := Scalar.addi v71 v72
  let c1_i32_357 : BitVec 32 := 1#32
  let v584 : BitVec 32 := Scalar.muli v73 c1_i32_357
  let v585 : BitVec 32 := Scalar.addi c0_i32_358 v584
  v585.toNat
def k0_dev26 (d0 : Dev nD) : Nat :=
  let c0_i32_366 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_41 : BitVec 32 := 0#32
  let v81 : BitVec 32 := Scalar.xori v20 c0_i32_41
  let c4_i32_42 : BitVec 32 := 4#32
  let v82 : BitVec 32 := Scalar.muli v81 c4_i32_42
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_40 : BitVec 32 := 1#32
  let v80 : BitVec 32 := Scalar.xori v26 c1_i32_40
  let c2_i32_43 : BitVec 32 := 2#32
  let v83 : BitVec 32 := Scalar.muli v80 c2_i32_43
  let v84 : BitVec 32 := Scalar.addi v82 v83
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_39 : BitVec 32 := 0#32
  let v79 : BitVec 32 := Scalar.xori v24 c0_i32_39
  let v85 : BitVec 32 := Scalar.xori v79 v80
  let v86 : BitVec 32 := Scalar.addi v84 v85
  let c1_i32_365 : BitVec 32 := 1#32
  let v594 : BitVec 32 := Scalar.muli v86 c1_i32_365
  let v595 : BitVec 32 := Scalar.addi c0_i32_366 v594
  v595.toNat
def k0_dev27 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_49 : BitVec 32 := 1#32
  let v94 : BitVec 32 := Scalar.xori v20 c1_i32_49
  let c4_i32_50 : BitVec 32 := 4#32
  let v95 : BitVec 32 := Scalar.muli v94 c4_i32_50
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_48 : BitVec 32 := 1#32
  let v93 : BitVec 32 := Scalar.xori v26 c1_i32_48
  let c2_i32_51 : BitVec 32 := 2#32
  let v96 : BitVec 32 := Scalar.muli v93 c2_i32_51
  let v97 : BitVec 32 := Scalar.addi v95 v96
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_47 : BitVec 32 := 0#32
  let v92 : BitVec 32 := Scalar.xori v24 c0_i32_47
  let v98 : BitVec 32 := Scalar.xori v92 v93
  let v99 : BitVec 32 := Scalar.addi v97 v98
  let c1_i32_373 : BitVec 32 := 1#32
  let v604 : BitVec 32 := Scalar.muli v99 c1_i32_373
  let v605 : BitVec 32 := Scalar.addi c0_i32_374 v604
  v605.toNat
def k0_dev28 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_57 : BitVec 32 := 1#32
  let v107 : BitVec 32 := Scalar.xori v20 c1_i32_57
  let c4_i32_58 : BitVec 32 := 4#32
  let v108 : BitVec 32 := Scalar.muli v107 c4_i32_58
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_56 : BitVec 32 := 0#32
  let v106 : BitVec 32 := Scalar.xori v26 c0_i32_56
  let c2_i32_59 : BitVec 32 := 2#32
  let v109 : BitVec 32 := Scalar.muli v106 c2_i32_59
  let v110 : BitVec 32 := Scalar.addi v108 v109
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_55 : BitVec 32 := 0#32
  let v105 : BitVec 32 := Scalar.xori v24 c0_i32_55
  let v111 : BitVec 32 := Scalar.xori v105 v106
  let v112 : BitVec 32 := Scalar.addi v110 v111
  let c1_i32_381 : BitVec 32 := 1#32
  let v614 : BitVec 32 := Scalar.muli v112 c1_i32_381
  let v615 : BitVec 32 := Scalar.addi c0_i32_382 v614
  v615.toNat
def k0_dev29 (d0 : Dev nD) : Nat :=
  let c0_i32_462 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_13 : BitVec 32 := 0#32
  let v29 : BitVec 32 := Scalar.xori v20 c0_i32_13
  let c4_i32_14 : BitVec 32 := 4#32
  let v30 : BitVec 32 := Scalar.muli v29 c4_i32_14
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_12 : BitVec 32 := 0#32
  let v28 : BitVec 32 := Scalar.xori v26 c0_i32_12
  let c2_i32 : BitVec 32 := 2#32
  let v31 : BitVec 32 := Scalar.muli v28 c2_i32
  let v32 : BitVec 32 := Scalar.addi v30 v31
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_11 : BitVec 32 := 1#32
  let v27 : BitVec 32 := Scalar.xori v24 c1_i32_11
  let v33 : BitVec 32 := Scalar.xori v27 v28
  let v34 : BitVec 32 := Scalar.addi v32 v33
  let c1_i32_461 : BitVec 32 := 1#32
  let v706 : BitVec 32 := Scalar.muli v34 c1_i32_461
  let v707 : BitVec 32 := Scalar.addi c0_i32_462 v706
  v707.toNat
def k0_dev30 (d0 : Dev nD) : Nat :=
  let c0_i32_470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_17 : BitVec 32 := 1#32
  let v42 : BitVec 32 := Scalar.xori v20 c1_i32_17
  let c4_i32_18 : BitVec 32 := 4#32
  let v43 : BitVec 32 := Scalar.muli v42 c4_i32_18
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_16 : BitVec 32 := 0#32
  let v41 : BitVec 32 := Scalar.xori v26 c0_i32_16
  let c2_i32_19 : BitVec 32 := 2#32
  let v44 : BitVec 32 := Scalar.muli v41 c2_i32_19
  let v45 : BitVec 32 := Scalar.addi v43 v44
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_15 : BitVec 32 := 1#32
  let v40 : BitVec 32 := Scalar.xori v24 c1_i32_15
  let v46 : BitVec 32 := Scalar.xori v40 v41
  let v47 : BitVec 32 := Scalar.addi v45 v46
  let c1_i32_469 : BitVec 32 := 1#32
  let v716 : BitVec 32 := Scalar.muli v47 c1_i32_469
  let v717 : BitVec 32 := Scalar.addi c0_i32_470 v716
  v717.toNat
def k0_dev31 (d0 : Dev nD) : Nat :=
  let c0_i32_478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_25 : BitVec 32 := 0#32
  let v55 : BitVec 32 := Scalar.xori v20 c0_i32_25
  let c4_i32_26 : BitVec 32 := 4#32
  let v56 : BitVec 32 := Scalar.muli v55 c4_i32_26
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_24 : BitVec 32 := 1#32
  let v54 : BitVec 32 := Scalar.xori v26 c1_i32_24
  let c2_i32_27 : BitVec 32 := 2#32
  let v57 : BitVec 32 := Scalar.muli v54 c2_i32_27
  let v58 : BitVec 32 := Scalar.addi v56 v57
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_23 : BitVec 32 := 1#32
  let v53 : BitVec 32 := Scalar.xori v24 c1_i32_23
  let v59 : BitVec 32 := Scalar.xori v53 v54
  let v60 : BitVec 32 := Scalar.addi v58 v59
  let c1_i32_477 : BitVec 32 := 1#32
  let v726 : BitVec 32 := Scalar.muli v60 c1_i32_477
  let v727 : BitVec 32 := Scalar.addi c0_i32_478 v726
  v727.toNat
def k0_dev32 (d0 : Dev nD) : Nat :=
  let c0_i32_486 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_33 : BitVec 32 := 1#32
  let v68 : BitVec 32 := Scalar.xori v20 c1_i32_33
  let c4_i32_34 : BitVec 32 := 4#32
  let v69 : BitVec 32 := Scalar.muli v68 c4_i32_34
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_32 : BitVec 32 := 1#32
  let v67 : BitVec 32 := Scalar.xori v26 c1_i32_32
  let c2_i32_35 : BitVec 32 := 2#32
  let v70 : BitVec 32 := Scalar.muli v67 c2_i32_35
  let v71 : BitVec 32 := Scalar.addi v69 v70
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c1_i32_31 : BitVec 32 := 1#32
  let v66 : BitVec 32 := Scalar.xori v24 c1_i32_31
  let v72 : BitVec 32 := Scalar.xori v66 v67
  let v73 : BitVec 32 := Scalar.addi v71 v72
  let c1_i32_485 : BitVec 32 := 1#32
  let v736 : BitVec 32 := Scalar.muli v73 c1_i32_485
  let v737 : BitVec 32 := Scalar.addi c0_i32_486 v736
  v737.toNat
def k0_dev33 (d0 : Dev nD) : Nat :=
  let c0_i32_494 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_41 : BitVec 32 := 0#32
  let v81 : BitVec 32 := Scalar.xori v20 c0_i32_41
  let c4_i32_42 : BitVec 32 := 4#32
  let v82 : BitVec 32 := Scalar.muli v81 c4_i32_42
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_40 : BitVec 32 := 1#32
  let v80 : BitVec 32 := Scalar.xori v26 c1_i32_40
  let c2_i32_43 : BitVec 32 := 2#32
  let v83 : BitVec 32 := Scalar.muli v80 c2_i32_43
  let v84 : BitVec 32 := Scalar.addi v82 v83
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_39 : BitVec 32 := 0#32
  let v79 : BitVec 32 := Scalar.xori v24 c0_i32_39
  let v85 : BitVec 32 := Scalar.xori v79 v80
  let v86 : BitVec 32 := Scalar.addi v84 v85
  let c1_i32_493 : BitVec 32 := 1#32
  let v746 : BitVec 32 := Scalar.muli v86 c1_i32_493
  let v747 : BitVec 32 := Scalar.addi c0_i32_494 v746
  v747.toNat
def k0_dev34 (d0 : Dev nD) : Nat :=
  let c0_i32_502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_49 : BitVec 32 := 1#32
  let v94 : BitVec 32 := Scalar.xori v20 c1_i32_49
  let c4_i32_50 : BitVec 32 := 4#32
  let v95 : BitVec 32 := Scalar.muli v94 c4_i32_50
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c1_i32_48 : BitVec 32 := 1#32
  let v93 : BitVec 32 := Scalar.xori v26 c1_i32_48
  let c2_i32_51 : BitVec 32 := 2#32
  let v96 : BitVec 32 := Scalar.muli v93 c2_i32_51
  let v97 : BitVec 32 := Scalar.addi v95 v96
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_47 : BitVec 32 := 0#32
  let v92 : BitVec 32 := Scalar.xori v24 c0_i32_47
  let v98 : BitVec 32 := Scalar.xori v92 v93
  let v99 : BitVec 32 := Scalar.addi v97 v98
  let c1_i32_501 : BitVec 32 := 1#32
  let v756 : BitVec 32 := Scalar.muli v99 c1_i32_501
  let v757 : BitVec 32 := Scalar.addi c0_i32_502 v756
  v757.toNat
def k0_dev35 (d0 : Dev nD) : Nat :=
  let c0_i32_510 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_57 : BitVec 32 := 1#32
  let v107 : BitVec 32 := Scalar.xori v20 c1_i32_57
  let c4_i32_58 : BitVec 32 := 4#32
  let v108 : BitVec 32 := Scalar.muli v107 c4_i32_58
  let c4_i32 : BitVec 32 := 4#32
  let v3 : BitVec 32 := Scalar.remsi v2 c4_i32
  let c1_i32_9 : BitVec 32 := 1#32
  let v25 : BitVec 32 := Scalar.shrsi v3 c1_i32_9
  let c1_i32_10 : BitVec 32 := 1#32
  let v26 : BitVec 32 := Scalar.andi v25 c1_i32_10
  let c0_i32_56 : BitVec 32 := 0#32
  let v106 : BitVec 32 := Scalar.xori v26 c0_i32_56
  let c2_i32_59 : BitVec 32 := 2#32
  let v109 : BitVec 32 := Scalar.muli v106 c2_i32_59
  let v110 : BitVec 32 := Scalar.addi v108 v109
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let c0_i32_55 : BitVec 32 := 0#32
  let v105 : BitVec 32 := Scalar.xori v24 c0_i32_55
  let v111 : BitVec 32 := Scalar.xori v105 v106
  let v112 : BitVec 32 := Scalar.addi v110 v111
  let c1_i32_509 : BitVec 32 := 1#32
  let v766 : BitVec 32 := Scalar.muli v112 c1_i32_509
  let v767 : BitVec 32 := Scalar.addi c0_i32_510 v766
  v767.toNat
def k0_off8 (d0 : Dev nD) (c1_i32_11 : BitVec 32) (c0_i32_12 : BitVec 32) (c0_i32_13 : BitVec 32) (c0_i32_527 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let v27 : BitVec 32 := Scalar.xori v24 c1_i32_11
  let c1024_i32 : BitVec 32 := 1024#32
  let v35 : BitVec 32 := Scalar.muli v27 c1024_i32
  let c1_i32_9 : BitVec 32 := 1#32
  let v25 : BitVec 32 := Scalar.shrsi v3 c1_i32_9
  let c1_i32_10 : BitVec 32 := 1#32
  let v26 : BitVec 32 := Scalar.andi v25 c1_i32_10
  let v28 : BitVec 32 := Scalar.xori v26 c0_i32_12
  let c512_i32 : BitVec 32 := 512#32
  let v36 : BitVec 32 := Scalar.muli v28 c512_i32
  let v37 : BitVec 32 := Scalar.addi v35 v36
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v29 : BitVec 32 := Scalar.xori v20 c0_i32_13
  let c256_i32 : BitVec 32 := 256#32
  let v38 : BitVec 32 := Scalar.muli v29 c256_i32
  let v39 : BitVec 32 := Scalar.addi v37 v38
  let v789 : BitVec 32 := Scalar.addi v39 c0_i32_527
  let v790 : Index := Scalar.indexCast v789
  let c0_528 : Index := 0#32
  ![v790.toNat, 0]
def k0_off8_at (r : Fin 14) : BitVec 32 × BitVec 32 × BitVec 32 × BitVec 32 :=
  if r.val < 7 then
    if r.val < 3 then
      if r.val < 1 then
        (1#32, 0#32, 0#32, 0#32)
      else
        if r.val < 2 then
          (1#32, 0#32, 1#32, 0#32)
        else
          (1#32, 1#32, 0#32, 0#32)
    else
      if r.val < 5 then
        if r.val < 4 then
          (1#32, 1#32, 1#32, 0#32)
        else
          (0#32, 1#32, 0#32, 0#32)
      else
        if r.val < 6 then
          (0#32, 1#32, 1#32, 0#32)
        else
          (0#32, 0#32, 1#32, 0#32)
  else
    if r.val < 10 then
      if r.val < 8 then
        (1#32, 0#32, 0#32, 128#32)
      else
        if r.val < 9 then
          (1#32, 0#32, 1#32, 128#32)
        else
          (1#32, 1#32, 0#32, 128#32)
    else
      if r.val < 12 then
        if r.val < 11 then
          (1#32, 1#32, 1#32, 128#32)
        else
          (0#32, 1#32, 0#32, 128#32)
      else
        if r.val < 13 then
          (0#32, 1#32, 1#32, 128#32)
        else
          (0#32, 0#32, 1#32, 128#32)
def k0_off9 (d0 : Dev nD) (c1_i32_521 : BitVec 32) (c0_i32_523 : BitVec 32) (c0_i32_524 : BitVec 32) (c0_i32_526 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 32 := Scalar.remsi v2 c4_i32
  let c1_i32_6 : BitVec 32 := 1#32
  let v21 : BitVec 32 := Scalar.andi v3 c1_i32_6
  let c1_i32_7 : BitVec 32 := 1#32
  let v22 : BitVec 32 := Scalar.shrsi v3 c1_i32_7
  let c1_i32_8 : BitVec 32 := 1#32
  let v23 : BitVec 32 := Scalar.andi v22 c1_i32_8
  let v24 : BitVec 32 := Scalar.xori v21 v23
  let v782 : BitVec 32 := Scalar.xori v24 c1_i32_521
  let c2_i32_522 : BitVec 32 := 2#32
  let v783 : BitVec 32 := Scalar.muli v782 c2_i32_522
  let c1_i32_9 : BitVec 32 := 1#32
  let v25 : BitVec 32 := Scalar.shrsi v3 c1_i32_9
  let c1_i32_10 : BitVec 32 := 1#32
  let v26 : BitVec 32 := Scalar.andi v25 c1_i32_10
  let v784 : BitVec 32 := Scalar.xori v26 c0_i32_523
  let v785 : BitVec 32 := Scalar.addi v783 v784
  let v793 : Index := Scalar.indexCast v785
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v786 : BitVec 32 := Scalar.xori v20 c0_i32_524
  let c256_i32_525 : BitVec 32 := 256#32
  let v787 : BitVec 32 := Scalar.muli v786 c256_i32_525
  let v788 : BitVec 32 := Scalar.addi v787 c0_i32_526
  let v794 : Index := Scalar.indexCast v788
  let c0_529 : Index := 0#32
  ![v793.toNat, v794.toNat, 0]
def k0_off9_at (r : Fin 14) : BitVec 32 × BitVec 32 × BitVec 32 × BitVec 32 :=
  if r.val < 7 then
    if r.val < 3 then
      if r.val < 1 then
        (1#32, 0#32, 0#32, 0#32)
      else
        if r.val < 2 then
          (1#32, 0#32, 1#32, 0#32)
        else
          (1#32, 1#32, 0#32, 0#32)
    else
      if r.val < 5 then
        if r.val < 4 then
          (1#32, 1#32, 1#32, 0#32)
        else
          (0#32, 1#32, 0#32, 0#32)
      else
        if r.val < 6 then
          (0#32, 1#32, 1#32, 0#32)
        else
          (0#32, 0#32, 1#32, 0#32)
  else
    if r.val < 10 then
      if r.val < 8 then
        (1#32, 0#32, 0#32, 128#32)
      else
        if r.val < 9 then
          (1#32, 0#32, 1#32, 128#32)
        else
          (1#32, 1#32, 0#32, 128#32)
    else
      if r.val < 12 then
        if r.val < 11 then
          (1#32, 1#32, 1#32, 128#32)
        else
          (0#32, 1#32, 0#32, 128#32)
      else
        if r.val < 13 then
          (0#32, 1#32, 1#32, 128#32)
        else
          (0#32, 0#32, 1#32, 128#32)
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4x512x2048 : Shape := ⟨3, ![4, 512, 2048]⟩
abbrev S4x2048 : Shape := ⟨2, ![4, 2048]⟩
abbrev S2048x256 : Shape := ⟨2, ![2048, 256]⟩
abbrev S_ : Shape := ⟨0, ![]⟩
abbrev S4x3x2048 : Shape := ⟨3, ![4, 3, 2048]⟩
abbrev S4x515x2048 : Shape := ⟨3, ![4, 515, 2048]⟩
abbrev S1x2048 : Shape := ⟨2, ![1, 2048]⟩
abbrev S2048 : Shape := ⟨1, ![2048]⟩
abbrev S1x1x2048 : Shape := ⟨3, ![1, 1, 2048]⟩
abbrev S4x512x256 : Shape := ⟨3, ![4, 512, 256]⟩

abbrev nBuf : Space → Nat
  | .hbm => 43
  | .vmem => 0
  | .smem => 0
  | _ => 0

abbrev bufTy : (tb : Table) → Fin (tcTables nBuf tb) → BufTy
  | .hbm, ⟨0, _⟩ => ⟨S4x512x2048, .f32⟩
  | .hbm, ⟨1, _⟩ => ⟨S4x2048, .f32⟩
  | .hbm, ⟨2, _⟩ => ⟨S2048x256, .f32⟩
  | .hbm, ⟨3, _⟩ => ⟨S_, .f32⟩
  | .hbm, ⟨4, _⟩ => ⟨S4x3x2048, .f32⟩
  | .hbm, ⟨5, _⟩ => ⟨S4x515x2048, .f32⟩
  | .hbm, ⟨6, _⟩ => ⟨S_, .f32⟩
  | .hbm, ⟨7, _⟩ => ⟨S4x512x2048, .f32⟩
  | .hbm, ⟨8, _⟩ => ⟨S4x512x2048, .f32⟩
  | .hbm, ⟨9, _⟩ => ⟨S1x2048, .f32⟩
  | .hbm, ⟨10, _⟩ => ⟨S2048, .f32⟩
  | .hbm, ⟨11, _⟩ => ⟨S1x1x2048, .f32⟩
  | .hbm, ⟨12, _⟩ => ⟨S4x512x2048, .f32⟩
  | .hbm, ⟨13, _⟩ => ⟨S4x512x2048, .f32⟩
  | .hbm, ⟨14, _⟩ => ⟨S4x512x2048, .f32⟩
  | .hbm, ⟨15, _⟩ => ⟨S4x512x2048, .f32⟩
  | .hbm, ⟨16, _⟩ => ⟨S1x2048, .f32⟩
  | .hbm, ⟨17, _⟩ => ⟨S2048, .f32⟩
  | .hbm, ⟨18, _⟩ => ⟨S1x1x2048, .f32⟩
  | .hbm, ⟨19, _⟩ => ⟨S4x512x2048, .f32⟩
  | .hbm, ⟨20, _⟩ => ⟨S4x512x2048, .f32⟩
  | .hbm, ⟨21, _⟩ => ⟨S4x512x2048, .f32⟩
  | .hbm, ⟨22, _⟩ => ⟨S4x512x2048, .f32⟩
  | .hbm, ⟨23, _⟩ => ⟨S1x2048, .f32⟩
  | .hbm, ⟨24, _⟩ => ⟨S2048, .f32⟩
  | .hbm, ⟨25, _⟩ => ⟨S1x1x2048, .f32⟩
  | .hbm, ⟨26, _⟩ => ⟨S4x512x2048, .f32⟩
  | .hbm, ⟨27, _⟩ => ⟨S4x512x2048, .f32⟩
  | .hbm, ⟨28, _⟩ => ⟨S4x512x2048, .f32⟩
  | .hbm, ⟨29, _⟩ => ⟨S4x512x2048, .f32⟩
  | .hbm, ⟨30, _⟩ => ⟨S1x2048, .f32⟩
  | .hbm, ⟨31, _⟩ => ⟨S2048, .f32⟩
  | .hbm, ⟨32, _⟩ => ⟨S1x1x2048, .f32⟩
  | .hbm, ⟨33, _⟩ => ⟨S4x512x2048, .f32⟩
  | .hbm, ⟨34, _⟩ => ⟨S4x512x2048, .f32⟩
  | .hbm, ⟨35, _⟩ => ⟨S4x512x2048, .f32⟩
  | .hbm, ⟨36, _⟩ => ⟨S4x512x2048, .f32⟩
  | .hbm, ⟨37, _⟩ => ⟨S4x512x2048, .f32⟩
  | .hbm, ⟨38, _⟩ => ⟨S_, .f32⟩
  | .hbm, ⟨39, _⟩ => ⟨S4x512x2048, .f32⟩
  | .hbm, ⟨40, _⟩ => ⟨S4x512x2048, .f32⟩
  | .hbm, ⟨41, _⟩ => ⟨S4x512x2048, .f32⟩
  | .hbm, ⟨42, _⟩ => ⟨S4x512x256, .f32⟩
  | _, _ => ⟨S4x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Proof.Mesh.lean ====
/-
# The mesh of eight devices: who talks to whom, and which rows each device owns

Closed forms of the device numbers and of the offsets that the kernel computes from its own device
number by integer arithmetic. Each is a finite check over the eight devices.
-/
module

public import proofs.«01_k».proof.Proof.Gen.KernelIdeal
public import proofs.«01_k».proof.Proof.Gen.KernelIdeal.Skeleton

@[expose] public section

noncomputable section

namespace Cert.Scatter

open Cert.KernelIdeal Cert.KernelIdeal.Gen
open Idealize.ShloMosaic

/-! ## Peers and rows -/

/-- The bits in which peer `r` differs from a device. -/
abbrev mask (r : Fin 7) : ℕ := (![1, 5, 2, 6, 3, 7, 4] : Fin 7 → ℕ) r

/-- Peer `r` of device `c`: the bits of `mask r` flipped in its number. -/
def peer (r : Fin 7) (c : Dev nD) : Dev nD := ⟨(c.val ^^^ mask r) % 8, Nat.mod_lt _ (by decide)⟩

/-- The first of the 256 rows (of the 2048 rows of all four batches) that device `d` owns. -/
abbrev row (d : Dev nD) : ℕ := (![0, 1024, 1536, 512, 256, 1280, 1792, 768] : Fin 8 → ℕ) d

/-- The batch in which the rows of `d` lie. -/
abbrev bat (d : Dev nD) : ℕ := row d / 512
/-- The first row of `d` inside its batch. -/
abbrev lrow (d : Dev nD) : ℕ := row d % 512

/-- Peers come in pairs: the peer of the peer is the device itself. -/
theorem peer_peer : ∀ (r : Fin 7) (c : Dev nD), peer r (peer r c) = c := by decide +kernel

/-- Every device other than `c` is one of its seven peers. -/
theorem eq_or_peer : ∀ c d : Dev nD, d = c ∨ ∃ r, d = peer r c := by decide +kernel
theorem peer_ne : ∀ (r : Fin 7) (c : Dev nD), peer r c ≠ c := by decide +kernel
theorem peer_inj : ∀ (c : Dev nD) (r r' : Fin 7), peer r c = peer r' c → r = r' := by decide +kernel

/-- The exchange with peer `r` as a rearrangement of the devices. -/
def swap (r : Fin 7) : Dev nD ≃ Dev nD := ⟨peer r, peer r, peer_peer r, peer_peer r⟩

/-! ## The device numbers -/

theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
theorem dev4_eq : ∀ c : Dev nD, (⟨k0_dev4 c, k0_dev4_lt c⟩ : Dev nD) = peer 3 c := by decide +kernel
theorem dev5_eq : ∀ c : Dev nD, (⟨k0_dev5 c, k0_dev5_lt c⟩ : Dev nD) = peer 4 c := by decide +kernel
theorem dev6_eq : ∀ c : Dev nD, (⟨k0_dev6 c, k0_dev6_lt c⟩ : Dev nD) = peer 5 c := by decide +kernel
theorem dev7_eq : ∀ c : Dev nD, (⟨k0_dev7 c, k0_dev7_lt c⟩ : Dev nD) = peer 6 c := by decide +kernel
theorem dev8_eq : ∀ c : Dev nD, (⟨k0_dev8 c, k0_dev8_lt c⟩ : Dev nD) = peer 0 c := by decide +kernel
theorem dev9_eq : ∀ c : Dev nD, (⟨k0_dev9 c, k0_dev9_lt c⟩ : Dev nD) = peer 0 c := by decide +kernel
theorem dev10_eq : ∀ c : Dev nD, (⟨k0_dev10 c, k0_dev10_lt c⟩ : Dev nD) = peer 1 c := by decide +kernel
theorem dev11_eq : ∀ c : Dev nD, (⟨k0_dev11 c, k0_dev11_lt c⟩ : Dev nD) = peer 1 c := by decide +kernel
theorem dev12_eq : ∀ c : Dev nD, (⟨k0_dev12 c, k0_dev12_lt c⟩ : Dev nD) = peer 2 c := by decide +kernel
theorem dev13_eq : ∀ c : Dev nD, (⟨k0_dev13 c, k0_dev13_lt c⟩ : Dev nD) = peer 2 c := by decide +kernel
theorem dev14_eq : ∀ c : Dev nD, (⟨k0_dev14 c, k0_dev14_lt c⟩ : Dev nD) = peer 3 c := by decide +kernel
theorem dev15_eq : ∀ c : Dev nD, (⟨k0_dev15 c, k0_dev15_lt c⟩ : Dev nD) = peer 3 c := by decide +kernel
theorem dev16_eq : ∀ c : Dev nD, (⟨k0_dev16 c, k0_dev16_lt c⟩ : Dev nD) = peer 4 c := by decide +kernel
theorem dev17_eq : ∀ c : Dev nD, (⟨k0_dev17 c, k0_dev17_lt c⟩ : Dev nD) = peer 4 c := by decide +kernel
theorem dev18_eq : ∀ c : Dev nD, (⟨k0_dev18 c, k0_dev18_lt c⟩ : Dev nD) = peer 5 c := by decide +kernel
theorem dev19_eq : ∀ c : Dev nD, (⟨k0_dev19 c, k0_dev19_lt c⟩ : Dev nD) = peer 5 c := by decide +kernel
theorem dev20_eq : ∀ c : Dev nD, (⟨k0_dev20 c, k0_dev20_lt c⟩ : Dev nD) = peer 6 c := by decide +kernel
theorem dev21_eq : ∀ c : Dev nD, (⟨k0_dev21 c, k0_dev21_lt c⟩ : Dev nD) = peer 6 c := by decide +kernel
theorem dev22_eq : ∀ c : Dev nD, (⟨k0_dev22 c, k0_dev22_lt c⟩ : Dev nD) = peer 0 c := by decide +kernel
theorem dev23_eq : ∀ c : Dev nD, (⟨k0_dev23 c, k0_dev23_lt c⟩ : Dev nD) = peer 1 c := by decide +kernel
theorem dev24_eq : ∀ c : Dev nD, (⟨k0_dev24 c, k0_dev24_lt c⟩ : Dev nD) = peer 2 c := by decide +kernel
theorem dev25_eq : ∀ c : Dev nD, (⟨k0_dev25 c, k0_dev25_lt c⟩ : Dev nD) = peer 3 c := by decide +kernel
theorem dev26_eq : ∀ c : Dev nD, (⟨k0_dev26 c, k0_dev26_lt c⟩ : Dev nD) = peer 4 c := by decide +kernel
theorem dev27_eq : ∀ c : Dev nD, (⟨k0_dev27 c, k0_dev27_lt c⟩ : Dev nD) = peer 5 c := by decide +kernel
theorem dev28_eq : ∀ c : Dev nD, (⟨k0_dev28 c, k0_dev28_lt c⟩ : Dev nD) = peer 6 c := by decide +kernel
theorem dev29_eq : ∀ c : Dev nD, (⟨k0_dev29 c, k0_dev29_lt c⟩ : Dev nD) = peer 0 c := by decide +kernel
theorem dev30_eq : ∀ c : Dev nD, (⟨k0_dev30 c, k0_dev30_lt c⟩ : Dev nD) = peer 1 c := by decide +kernel
theorem dev31_eq : ∀ c : Dev nD, (⟨k0_dev31 c, k0_dev31_lt c⟩ : Dev nD) = peer 2 c := by decide +kernel
theorem dev32_eq : ∀ c : Dev nD, (⟨k0_dev32 c, k0_dev32_lt c⟩ : Dev nD) = peer 3 c := by decide +kernel
theorem dev33_eq : ∀ c : Dev nD, (⟨k0_dev33 c, k0_dev33_lt c⟩ : Dev nD) = peer 4 c := by decide +kernel
theorem dev34_eq : ∀ c : Dev nD, (⟨k0_dev34 c, k0_dev34_lt c⟩ : Dev nD) = peer 5 c := by decide +kernel
theorem dev35_eq : ∀ c : Dev nD, (⟨k0_dev35 c, k0_dev35_lt c⟩ : Dev nD) = peer 6 c := by decide +kernel

/-! ## The offsets -/

/-- Chunk `(d, h)` of a buffer of 2048 rows: half `h` (128 rows) of the rows of device `d`. -/
abbrev cOff (d : Dev nD) (h : Fin 2) : Fin 2 → ℕ := ![row d + 128 * h.val, 0]
/-- Slot `(h, r)` of the landing buffer. -/
abbrev sOff (h : Fin 2) (r : Fin 7) : Fin 2 → ℕ := ![896 * h.val + 128 * r.val, 0]
/-- Block `(d, h)` of the result: the same rows as chunk `(d, h)`, by batch and row. -/
abbrev oOff (d : Dev nD) (h : Fin 2) : Fin 3 → ℕ := ![bat d, lrow d + 128 * h.val, 0]

/-- The number of slot `(h, r)` in an array of fourteen semaphores. -/
abbrev slotIx (h : Fin 2) (r : Fin 7) : Fin 14 := ⟨7 * h.val + r.val, by omega⟩
/-- The number of transfer `(r, h)` in the order in which the first exchange sends. -/
abbrev sendIx (r : Fin 7) (h : Fin 2) : Fin 14 := ⟨2 * r.val + h.val, by omega⟩

/-- The word of half `h`. -/
abbrev hw (h : Fin 2) : BitVec 32 := if h.val = 0 then 0#32 else 128#32

theorem off3_eq : ∀ (c : Dev nD) (r : Fin 7) (h : Fin 2),
    k0_off3 c (k0_off3_at (sendIx r h)).1 (k0_off3_at (sendIx r h)).2.1 (k0_off3_at (sendIx r h)).2.2.1 (k0_off3_at (sendIx r h)).2.2.2
      = cOff (peer r c) h := by decide +kernel
theorem off8_eq : ∀ (c : Dev nD) (r : Fin 7) (h : Fin 2),
    k0_off8 c (k0_off8_at (slotIx h r)).1 (k0_off8_at (slotIx h r)).2.1 (k0_off8_at (slotIx h r)).2.2.1 (k0_off8_at (slotIx h r)).2.2.2
      = cOff (peer r c) h := by decide +kernel
theorem off9_eq : ∀ (c : Dev nD) (r : Fin 7) (h : Fin 2),
    k0_off9 c (k0_off9_at (slotIx h r)).1 (k0_off9_at (slotIx h r)).2.1 (k0_off9_at (slotIx h r)).2.2.1 (k0_off9_at (slotIx h r)).2.2.2
      = oOff (peer r c) h := by decide +kernel
theorem off5_eq : ∀ (c : Dev nD) (h : Fin 2), k0_off5 c (hw h) = cOff c h := by decide +kernel
theorem off7_eq : ∀ (c : Dev nD) (h : Fin 2), k0_off7 c (hw h) = cOff c h := by decide +kernel
theorem off6_eq : ∀ (c : Dev nD) (h : Fin 2), k0_off6 c (hw h) = oOff c h := by decide +kernel
theorem off4_eq : ∀ (c : Dev nD) (h : Fin 2), k0_off4 c (hw h) = ![lrow c + 128 * h.val, 0] := by decide +kernel

/-- The four quarters (one batch each) in the order the kernel makes them, named by the first peer whose rows lie in
    the quarter; the last is the device's own batch, in which peer 6 also lies. -/
theorem off1_eq : ∀ (c : Dev nD), k0_off1 c 1#32 0#32 = ![bat (peer 0 c), 0, 0] ∧ k0_off1 c 1#32 1#32 = ![bat (peer 2 c), 0, 0]
    ∧ k0_off1 c 0#32 1#32 = ![bat (peer 4 c), 0, 0] ∧ k0_off1 c 0#32 0#32 = ![bat c, 0, 0] := by decide +kernel
theorem off2_eq : ∀ (c : Dev nD), k0_off2 c 1#32 0#32 = ![512 * bat (peer 0 c), 0] ∧ k0_off2 c 1#32 1#32 = ![512 * bat (peer 2 c), 0]
    ∧ k0_off2 c 0#32 1#32 = ![512 * bat (peer 4 c), 0] ∧ k0_off2 c 0#32 0#32 = ![512 * bat c, 0] := by decide +kernel
/-- Two peers lie in each of the first three quarters, the device and peer 6 in the last. -/
theorem bat_pair : ∀ (c : Dev nD), bat (peer 1 c) = bat (peer 0 c) ∧ bat (peer 3 c) = bat (peer 2 c)
    ∧ bat (peer 5 c) = bat (peer 4 c) ∧ bat (peer 6 c) = bat c := by decide +kernel

end Cert.Scatter

end
-- ==== Proof.Cells.lean ====
/-
# Buffers, semaphores and chunks of one device

Names for the buffers and semaphore cells that the kernel uses on a device, the rectangles that its
transfers move, and the facts that the rectangles tile their buffers.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.MemrefSat

@[expose] public section

noncomputable section

namespace Cert.Scatter

open Cert.KernelIdeal Cert.KernelIdeal.Gen
open Idealize.ShloMosaic Idealize.ShloMosaic.TcCoe

/-! ## Buffers -/

abbrev xM : Memref sig .tc .vmem S4x512x256 .f32 := Memref.whole cc0_stg0_0
abbrev kM : Memref sig .tc .vmem S4x256 .f32 := Memref.whole cc0_stg1_0
abbrev wM : Memref sig .tc .vmem S256x256 .f32 := Memref.whole cc0_stg2_0
abbrev oM : Memref sig .tc .vmem S4x512x256 .f32 := Memref.whole cc0_stg3_0
abbrev sendM : Memref sig .tc .vmem S2048x256 .bf16 := Memref.whole cc0_scratch0
abbrev landM : Memref sig .tc .vmem S1792x256 .bf16 := Memref.whole cc0_scratch1
abbrev resM : Memref sig .tc .vmem S2048x256 .bf16 := Memref.whole cc0_scratch2
abbrev nearM : Memref sig .tc .vmem S512x256 .f32 := Memref.whole cc0_scratch3

/-! ## Rectangles -/

theorem cOff_inb : ∀ (d : Dev nD) (h : Fin 2) (a : Fin 2), cOff d h a + S128x256.size a ≤ S2048x256.size a := by decide +kernel
theorem sOff_inb : ∀ (h : Fin 2) (r : Fin 7) (a : Fin 2), sOff h r a + S128x256.size a ≤ S1792x256.size a := by decide +kernel
theorem oOff_inb : ∀ (d : Dev nD) (h : Fin 2) (a : Fin 3), oOff d h a + S1x128x256.size a ≤ S4x512x256.size a := by decide +kernel

/-- Chunk `(d, h)` of a buffer of 2048 rows. -/
abbrev cR (t : Dev nD × Fin 2) : Rect S2048x256 := Rect.unit (s := S2048x256) (cOff t.1 t.2) S128x256.size (cOff_inb t.1 t.2)
/-- Slot `(h, r)` of the landing buffer. -/
abbrev sR (t : Fin 2 × Fin 7) : Rect S1792x256 := Rect.unit (s := S1792x256) (sOff t.1 t.2) S128x256.size (sOff_inb t.1 t.2)
/-- Block `(d, h)` of the result. -/
abbrev oR (t : Dev nD × Fin 2) : Rect S4x512x256 := Rect.unit (s := S4x512x256) (oOff t.1 t.2) S1x128x256.size (oOff_inb t.1 t.2)

abbrev sendC (d : Dev nD) (h : Fin 2) : Memref sig .tc .vmem S128x256 .bf16 := sendM.slice (cR (d, h)) (fun _ => rfl)
abbrev resC (d : Dev nD) (h : Fin 2) : Memref sig .tc .vmem S128x256 .bf16 := resM.slice (cR (d, h)) (fun _ => rfl)
abbrev landS (h : Fin 2) (r : Fin 7) : Memref sig .tc .vmem S128x256 .bf16 := landM.slice (sR (h, r)) (fun _ => rfl)
abbrev outB (d : Dev nD) (h : Fin 2) : Memref sig .tc .vmem S1x128x256 .f32 := oM.slice (oR (d, h)) (fun _ => rfl)

theorem cR_sep : ∀ t t' : Dev nD × Fin 2, t ≠ t' → cOff t.1 t.2 0 + 127 < cOff t'.1 t'.2 0 ∨ cOff t'.1 t'.2 0 + 127 < cOff t.1 t.2 0 := by
  decide +kernel
theorem sR_sep : ∀ t t' : Fin 2 × Fin 7, t ≠ t' → sOff t.1 t.2 0 + 127 < sOff t'.1 t'.2 0 ∨ sOff t'.1 t'.2 0 + 127 < sOff t.1 t.2 0 := by
  decide +kernel
theorem oR_sep : ∀ t t' : Dev nD × Fin 2, t ≠ t' → (oOff t.1 t.2 0 < oOff t'.1 t'.2 0 ∨ oOff t'.1 t'.2 0 < oOff t.1 t.2 0)
    ∨ (oOff t.1 t.2 1 + 127 < oOff t'.1 t'.2 1 ∨ oOff t'.1 t'.2 1 + 127 < oOff t.1 t.2 1) := by decide +kernel

/-- Different chunks, slots and blocks do not meet. -/
theorem cR_disj (t t' : Dev nD × Fin 2) (h : t ≠ t') : Disjoint (cR t).set (cR t').set :=
  Rect.disjoint_of_separated _ _ (0 : Fin 2) ((cR_sep t t' h).imp Or.inr Or.inr)
theorem sR_disj (t t' : Fin 2 × Fin 7) (h : t ≠ t') : Disjoint (sR t).set (sR t').set :=
  Rect.disjoint_of_separated _ _ (0 : Fin 2) ((sR_sep t t' h).imp Or.inr Or.inr)
theorem oR_disj (t t' : Dev nD × Fin 2) (h : t ≠ t') : Disjoint (oR t).set (oR t').set := by
  rcases oR_sep t t' h with h | h
  · exact Rect.disjoint_of_separated _ _ (0 : Fin 3) (h.imp Or.inr Or.inr)
  · exact Rect.disjoint_of_separated _ _ (1 : Fin 3) (h.imp Or.inr Or.inr)

/-- The device and half that own a row, the rows counted in pieces of 128. -/
theorem cOwner : ∀ n : Fin 16, ∃ t : Dev nD × Fin 2, cOff t.1 t.2 0 = 128 * n.val := by decide +kernel
theorem sOwner : ∀ n : Fin 14, ∃ t : Fin 2 × Fin 7, sOff t.1 t.2 0 = 128 * n.val := by decide +kernel
theorem oOwner : ∀ (b : Fin 4) (n : Fin 4), ∃ t : Dev nD × Fin 2, oOff t.1 t.2 0 = b.val ∧ oOff t.1 t.2 1 = 128 * n.val := by decide +kernel

/-- The chunks cover the buffer; so do the slots and the blocks. -/
theorem cR_cov : (Finset.univ : Finset (Dev nD × Fin 2)).biUnion (fun t => (cR t).set) = Finset.univ := by
  refine Finset.eq_univ_iff_forall.mpr fun i => ?_
  have h0 : (i 0).val < 2048 := (i 0).isLt
  have h1 : (i 1).val < 256 := (i 1).isLt
  obtain ⟨t, ht⟩ := cOwner ⟨(i 0).val / 128, by omega⟩
  refine Finset.mem_biUnion.mpr ⟨t, Finset.mem_univ _, Rect.mem_set_unit.mpr fun a => ?_⟩
  fin_cases a
  · show cOff t.1 t.2 0 ≤ (i 0).val ∧ (i 0).val < cOff t.1 t.2 0 + 128
    rw [ht]; dsimp only; omega
  · show 0 ≤ (i 1).val ∧ (i 1).val < 0 + 256
    omega
theorem sR_cov : (Finset.univ : Finset (Fin 2 × Fin 7)).biUnion (fun t => (sR t).set) = Finset.univ := by
  refine Finset.eq_univ_iff_forall.mpr fun i => ?_
  have h0 : (i 0).val < 1792 := (i 0).isLt
  have h1 : (i 1).val < 256 := (i 1).isLt
  obtain ⟨t, ht⟩ := sOwner ⟨(i 0).val / 128, by omega⟩
  refine Finset.mem_biUnion.mpr ⟨t, Finset.mem_univ _, Rect.mem_set_unit.mpr fun a => ?_⟩
  fin_cases a
  · show sOff t.1 t.2 0 ≤ (i 0).val ∧ (i 0).val < sOff t.1 t.2 0 + 128
    rw [ht]; dsimp only; omega
  · show 0 ≤ (i 1).val ∧ (i 1).val < 0 + 256
    omega
theorem oR_cov : (Finset.univ : Finset (Dev nD × Fin 2)).biUnion (fun t => (oR t).set) = Finset.univ := by
  refine Finset.eq_univ_iff_forall.mpr fun i => ?_
  have h0 : (i 0).val < 4 := (i 0).isLt
  have h1 : (i 1).val < 512 := (i 1).isLt
  have h2 : (i 2).val < 256 := (i 2).isLt
  obtain ⟨t, ht0, ht1⟩ := oOwner ⟨(i 0).val, h0⟩ ⟨(i 1).val / 128, by omega⟩
  refine Finset.mem_biUnion.mpr ⟨t, Finset.mem_univ _, Rect.mem_set_unit.mpr fun a => ?_⟩
  fin_cases a
  · show oOff t.1 t.2 0 ≤ (i 0).val ∧ (i 0).val < oOff t.1 t.2 0 + 1
    rw [ht0]; dsimp only; omega
  · show oOff t.1 t.2 1 ≤ (i 1).val ∧ (i 1).val < oOff t.1 t.2 1 + 128
    rw [ht1]; dsimp only; omega
  · show 0 ≤ (i 2).val ∧ (i 2).val < 0 + 256
    omega

/-! ## Semaphores -/

/-- The barrier semaphore, one of the runtime's. -/
abbrev barS : Sem sig := (SemArray.scalar (sig.barrier 0 rfl) : Sems sig S_).sem

/-- The four arrays of fourteen transfer semaphores: first exchange, sending and receiving; second exchange, sending and
    receiving. -/
abbrev semArr : Fin 4 → DmaSems sig S14 := fun | 0 => cc0_scratch4 | 1 => cc0_scratch5 | 2 => cc0_scratch6 | 3 => cc0_scratch7

theorem semIx_inb : ∀ (h : Fin 2) (r : Fin 7) (a : Fin 1), (![7 * h.val + r.val] : Fin 1 → ℕ) a + S1.size a ≤ S14.size a := by decide +kernel

/-- The transfer semaphore of array `a` at `(h, r)`. -/
abbrev dsem (a : Fin 4) (h : Fin 2) (r : Fin 7) : DmaSem sig :=
  (((semArr a).slice (Rect.unit (s := S14) ![7 * h.val + r.val] S1.size (semIx_inb h r))).squeeze S_ squeezes_S1_S_).sem

/-- The transfer semaphores are all different from the barrier and from one another. -/
theorem dsem_inj : ∀ x y : Fin 4 × Fin 2 × Fin 7, dsem x.1 x.2.1 x.2.2 = dsem y.1 y.2.1 y.2.2 → x = y := by decide +kernel

/-- The kernel's own semaphores, and with the runtime's barrier. -/
abbrev osem (x : Fin 4 × Fin 2 × Fin 7) : SemLoc sig := .dma (dsem x.1 x.2.1 x.2.2)

theorem ownSemFacts : Pipeline.OwnSemFacts cfg0.spec osem := by decide +kernel

abbrev barCell (c : Dev nD) : GSem nD τ sig := ((c : Thread nD τ), .reg barS)
abbrev dCell (a : Fin 4) (c : Dev nD) (h : Fin 2) (r : Fin 7) : GSem nD τ sig := ((c : Thread nD τ), .dma (dsem a h r))

/-- What one transfer of a chunk adds to a semaphore. -/
abbrev N : ℕ := (landS 0 0).view.dmaCredit
theorem N_pos : 0 < N := View.dmaCredit_pos _ (by decide)
theorem N_land (h : Fin 2) (r : Fin 7) : (landS h r).view.dmaCredit = N := rfl
theorem N_res (d : Dev nD) (h : Fin 2) : (resC d h).view.dmaCredit = N := rfl
theorem N_send (d : Dev nD) (h : Fin 2) : (sendC d h).view.dmaCredit = N := rfl

end Cert.Scatter

end
-- ==== Proof.Contents.lean ====
/-
# What the buffers hold

The values that the kernel computes and moves, as functions of what every device holds of `x`, of the
taps `k` and of `Wp`.
-/
module

public import proofs.«01_k».proof.Proof.Cells

@[expose] public section

noncomputable section

namespace Cert.Scatter

open Cert.KernelIdeal Cert.KernelIdeal.Gen
open Idealize.ShloMosaic Idealize.ShloMosaic.TcCoe

variable {F : FTy → Type} [FloatOps F]

/-- What the devices hold of the three arguments. -/
structure Ins (F : FTy → Type) where
  x : Dev nD → Vec F S4x512x256 .f32
  k : Dev nD → Vec F S4x256 .f32
  w : Dev nD → Vec F S256x256 .f32

theorem xOff_inb : ∀ (d : Dev nD) (a : Fin 3), (![bat d, 0, 0] : Fin 3 → ℕ) a + S1x512x256.size a ≤ S4x512x256.size a := by decide +kernel
theorem kOff_inb : ∀ (t : Fin 4) (a : Fin 2), (![t.val, 0] : Fin 2 → ℕ) a + S1x256.size a ≤ S4x256.size a := by decide +kernel
theorem bOff_inb : ∀ (d : Dev nD) (a : Fin 2), (![512 * bat d, 0] : Fin 2 → ℕ) a + S512x256.size a ≤ S2048x256.size a := by decide +kernel
theorem qOff_inb : ∀ (d : Dev nD) (h : Fin 2) (a : Fin 2), (![lrow d + 128 * h.val, 0] : Fin 2 → ℕ) a + S128x256.size a ≤ S512x256.size a := by decide +kernel

/-- The batch of device `d` in `x`. -/
abbrev xR (d : Dev nD) : Rect S4x512x256 := Rect.unit (s := S4x512x256) ![bat d, 0, 0] S1x512x256.size (xOff_inb d)
/-- Row `t` of the taps. -/
abbrev kR (t : Fin 4) : Rect S4x256 := Rect.unit (s := S4x256) ![t.val, 0] S1x256.size (kOff_inb t)
abbrev wR : Rect S256x256 := Rect.unit (s := S256x256) ![0, 0] S256x256.size inb_S256x256_S256x256_0_0
/-- The rows of the batch of `d` in the buffer of 2048 rows. -/
abbrev bR (d : Dev nD) : Rect S2048x256 := Rect.unit (s := S2048x256) ![512 * bat d, 0] S512x256.size (bOff_inb d)
/-- The rows of chunk `(d, h)` within the batch of `d`. -/
abbrev qR (t : Dev nD × Fin 2) : Rect S512x256 := Rect.unit (s := S512x256) ![lrow t.1 + 128 * t.2.val, 0] S128x256.size (qOff_inb t.1 t.2)
abbrev nR : Rect S512x256 := Rect.unit (s := S512x256) ![0, 0] S512x256.size inb_S512x256_S512x256_0_0

namespace Ins

variable (I : Ins F)

def xv (c d : Dev nD) : Vec F S1x512x256 .f32 := fun j => I.x c ((xR d).emb j)
def kv (c : Dev nD) (t : Fin 4) : Vec F S1x256 .f32 := fun j => I.k c ((kR t).emb j)
def wv (c : Dev nD) : Vec F S256x256 .f32 := fun j => I.w c (wR.emb j)

/-- The partial product that device `c` computes for the batch of `d`. -/
def near (c d : Dev nD) : FVec F S512x256 .f32 :=
  k0_pay15 (k0_pay1 (I.wv c)) (k0_pay13 (I.xv c d)) (k0_pay14 (I.xv c d) (I.kv c 3) (I.kv c 2) (I.kv c 1)) (I.kv c 0)

/-- The partial product as it is kept for the batch of the device itself. -/
def nearS (c d : Dev nD) : FVec F S512x256 .f32 :=
  k0_pay16 (k0_pay1 (I.wv c)) (k0_pay13 (I.xv c d)) (k0_pay14 (I.xv c d) (I.kv c 3) (I.kv c 2) (I.kv c 1)) (I.kv c 0)

/-- The partial product in the format in which it is sent. -/
def sent (c d : Dev nD) : FVec F S512x256 .bf16 :=
  k0_pay17 (k0_pay1 (I.wv c)) (k0_pay13 (I.xv c d)) (k0_pay14 (I.xv c d) (I.kv c 3) (I.kv c 2) (I.kv c 1)) (I.kv c 0)

/-- The chunk `(d, h)` of the partial product of `c`: what `c` sends to `d`. -/
def part (c d : Dev nD) (h : Fin 2) : Vec F S128x256 .bf16 := fun j => I.sent c d ((qR (d, h)).emb j)

def mine (c : Dev nD) (h : Fin 2) : Vec F S128x256 .f32 := fun j => I.nearS c c ((qR (c, h)).emb j)

/-- What `c` has added up after five of the seven chunks came in. -/
def sum5 (c : Dev nD) (h : Fin 2) : FVec F S128x256 .f32 :=
  k0_pay19 (k0_pay18 (I.mine c h) (I.part (peer 0 c) c h) (I.part (peer 1 c) c h))
    (I.part (peer 2 c) c h) (I.part (peer 3 c) c h) (I.part (peer 4 c) c h)

/-- The chunk of the result that `c` owns, as it sends it on. -/
def resv (c : Dev nD) (h : Fin 2) : FVec F S128x256 .bf16 :=
  k0_pay21 (I.sum5 c h) (I.part (peer 5 c) c h) (I.part (peer 6 c) c h)

/-- The same chunk, as `c` writes it to its own result. -/
def ownv (c : Dev nD) (h : Fin 2) : FVec F S1x128x256 .f32 :=
  k0_pay22 (I.sum5 c h) (I.part (peer 5 c) c h) (I.part (peer 6 c) c h)

/-- The chunk `(d, h)` of the result of `c`. -/
def outv (c d : Dev nD) (h : Fin 2) : FVec F S1x128x256 .f32 :=
  if d = c then I.ownv c h else k0_pay28 (I.resv d h)

end Ins

/-! ## The pieces of a batch -/

/-- Entry `j` of chunk `(d, h)` within the batch of `d`. -/
theorem bR_qR (d : Dev nD) (h : Fin 2) (j : S128x256.Idx) : (bR d).emb ((qR (d, h)).emb j) = (cR (d, h)).emb j := by
  funext a
  apply Fin.ext
  fin_cases a
  · show 512 * bat d + 1 * (lrow d + 128 * h.val + 1 * (j 0).val) = row d + 128 * h.val + 1 * (j 0).val
    have : 512 * bat d + lrow d = row d := Nat.div_add_mod _ _
    omega
  · show 0 + 1 * (0 + 1 * (j 1).val) = 0 + 1 * (j 1).val
    omega

/-- Two devices of one batch. -/
def two (d e : Dev nD) (t : Fin 2 × Fin 2) : Dev nD × Fin 2 := (if t.1.val = 0 then d else e, t.2)

theorem two_inj {d e : Dev nD} (h : d ≠ e) : Function.Injective (two d e) := by
  rintro ⟨i, a⟩ ⟨j, b⟩ hij
  simp only [two, Prod.mk.injEq] at hij
  obtain ⟨h1, rfl⟩ := hij
  fin_cases i <;> fin_cases j <;> first | rfl | exact absurd h1 h | exact absurd h1.symm h

/-- The four chunks of the devices `d` and `e` make up their batch. -/
theorem two_cov : ∀ d e : Dev nD, d ≠ e → bat d = bat e → ∀ n : Fin 4, ∃ t : Fin 2 × Fin 2, cOff (two d e t).1 (two d e t).2 0 = 512 * bat d + 128 * n.val := by
  decide +kernel

theorem bR_sub {d e : Dev nD} (h : d ≠ e) (hb : bat d = bat e) :
    (bR d).set ⊆ (Finset.univ : Finset (Fin 2 × Fin 2)).biUnion fun t => (cR (two d e t)).set := by
  intro i hi
  have hi' := Rect.mem_set_unit.mp hi
  have h0 : 512 * bat d ≤ (i 0).val ∧ (i 0).val < 512 * bat d + 512 := hi' 0
  have h1 : (i 1).val < 256 := (i 1).isLt
  obtain ⟨t, ht⟩ := two_cov d e h hb ⟨((i 0).val - 512 * bat d) / 128, by omega⟩
  refine Finset.mem_biUnion.mpr ⟨t, Finset.mem_univ _, Rect.mem_set_unit.mpr fun a => ?_⟩
  fin_cases a
  · show cOff (two d e t).1 (two d e t).2 0 ≤ (i 0).val ∧ (i 0).val < cOff (two d e t).1 (two d e t).2 0 + 128
    rw [ht]; dsimp only; omega
  · show 0 ≤ (i 1).val ∧ (i 1).val < 0 + 256
    omega

end Cert.Scatter
-- ==== Proof.Protocol.lean ====
/-
# The exchange as a schedule of duties

Every semaphore cell has one round. The barrier cell of a device has seven duties, one per peer: peer `r`
hands over its landing slots for this device and its copies of this device's chunks. Every transfer cell has
one duty: the sending side gets its source back, the receiving side gets the chunk with its contents.
-/
module

public import proofs.«01_k».proof.Proof.Contents

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (I : Ins F)

/-! ## Seven shares of one buffer -/

/-- A device reads one chunk for seven transfers at once: one share for each. -/
def share : Fin 7 → PosShare TreeShare :=
  ![fullShare.left.left.left, fullShare.left.left.right, fullShare.left.right.left, fullShare.left.right.right,
    fullShare.right.left.left, fullShare.right.left.right, fullShare.right.right]

theorem bigSep_seven (Φ : Fin 7 → sProp 𝕄) :
    bigSep Finset.univ Φ = iprop(Φ 0 ∗ Φ 1 ∗ Φ 2 ∗ Φ 3 ∗ Φ 4 ∗ Φ 5 ∗ Φ 6) := by
  rw [bigSep_univ_eq_bigSepL [0, 1, 2, 3, 4, 5, 6] (by decide) (by decide), bigSepL_cons_cons, bigSepL_cons_cons, bigSepL_cons_cons,
    bigSepL_cons_cons, bigSepL_cons_cons, bigSepL_cons_cons, bigSepL_singleton]
  rfl

/-- A chunk held in full is held in its seven shares, and back. -/
theorem owns_shares (c : Dev nD) {sp : Space} {sh : Shape} {e : EltTy} (m : Memref sig .tc sp sh e) (X : sh.Idx → Elt F e) :
    (owns (c : Thread nD τ) m fullShare X : sProp 𝕄) ⊣⊢ bigSep Finset.univ fun r => owns (c : Thread nD τ) m (share r) X := by
  rw [bigSep_seven]
  have hv (q : PosShare TreeShare) := owns_halves (Ix := Unit) (Name := ℕ) (U := UU) (Lvl := ℕ) (c : Thread nD τ) m q X
  constructor
  · iintro H
    ihave H := (hv _).1 $$ H
    icases H with ⟨HL, HR⟩
    ihave HL := (hv _).1 $$ HL
    icases HL with ⟨HLL, HLR⟩
    ihave HLL := (hv _).1 $$ HLL
    icases HLL with ⟨H0, H1⟩
    ihave HLR := (hv _).1 $$ HLR
    icases HLR with ⟨H2, H3⟩
    ihave HR := (hv _).1 $$ HR
    icases HR with ⟨HRL, H6⟩
    ihave HRL := (hv _).1 $$ HRL
    icases HRL with ⟨H4, H5⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    iapply (hv _).2
    isplitl [H0 H1 H2 H3]
    · iapply (hv _).2
      isplitl [H0 H1]
      · iapply (hv _).2
        isplitl [H0]; · iexact H0
        iexact H1
      · iapply (hv _).2
        isplitl [H2]; · iexact H2
        iexact H3
    · iapply (hv _).2
      isplitl [H4 H5]
      · iapply (hv _).2
        isplitl [H4]; · iexact H4
        iexact H5
      · iexact H6

/-! ## Payloads -/

/-- What the transfer cell `(a, h, r)` of device `c` pays out. -/
def chunkPay (a : Fin 4) (c : Dev nD) (h : Fin 2) (r : Fin 7) : sProp 𝕄 :=
  match a with
  | 0 => owns (c : Thread nD τ) (sendC (peer r c) h) fullShare (I.part c (peer r c) h)
  | 1 => owns (c : Thread nD τ) (landS h r) fullShare (I.part (peer r c) c h)
  | 2 => owns (c : Thread nD τ) (resC c h) (share r) (I.resv c h)
  | 3 => owns (c : Thread nD τ) (resC (peer r c) h) fullShare (I.resv (peer r c) h)

/-- What device `d` hands to its peer `r`: its landing slots for that peer and its copies of that peer's chunks. -/
def room (d : Dev nD) (r : Fin 7) : sProp 𝕄 :=
  iprop((bigSep Finset.univ fun h : Fin 2 => iprop(∃ X, owns (d : Thread nD τ) (landS h r) fullShare X))
    ∗ bigSep Finset.univ fun h : Fin 2 => iprop(∃ X, owns (d : Thread nD τ) (resC (peer r d) h) fullShare X))

instance chunkPay_storable (a : Fin 4) (c : Dev nD) (h : Fin 2) (r : Fin 7) :
    BI.Storable (upEmb : UEmb _ 𝕄) (chunkPay I a c h r) := by
  unfold chunkPay; split <;> infer_instance

instance room_storable (d : Dev nD) (r : Fin 7) : BI.Storable (upEmb : UEmb _ 𝕄) (room (F := F) d r) := by
  unfold room; infer_instance

/-- The index of a transfer semaphore, if it is one. -/
def ix (s : SemLoc sig) : Option (Fin 4 × Fin 2 × Fin 7) :=
  open Classical in if h : ∃ x, osem x = s then some h.choose else none

theorem ix_osem (x : Fin 4 × Fin 2 × Fin 7) : ix (osem x) = some x := by
  have hx : ∃ y, osem y = osem x := ⟨x, rfl⟩
  unfold ix; rw [dif_pos hx]
  have h := hx.choose_spec
  exact congrArg some (dsem_inj _ _ (by injection h))

theorem ix_bar : ix (.reg barS) = none := by
  unfold ix; rw [dif_neg (by rintro ⟨x, hx⟩; cases hx)]

theorem osem_ne_bar (x : Fin 4 × Fin 2 × Fin 7) : osem x ≠ .reg barS := fun h => by cases h

/-- The schedule: round 0 only. -/
def Rd : Rounds.Schedule (GSem nD τ sig) (Fin 7) 𝕄 where
  duties g r := if r = 0 ∧ g.1.2 = .tc then (if g.2 = .reg barS then Finset.univ else match ix g.2 with | some _ => {0} | none => ∅) else ∅
  unitless _ := False
  amount g _ _ := if g.2 = .reg barS then 1 else N
  payload g _ d :=
    if g.2 = .reg barS then room (peer d g.1.1) d
    else match ix g.2 with | some x => chunkPay I x.1 g.1.1 x.2.1 x.2.2 | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 7) : BI.Storable (upEmb : UEmb _ 𝕄) ((Rd I).payload g r d) := by
  show BI.Storable upEmb (if g.2 = .reg barS then room (peer d g.1.1) d
    else match ix g.2 with | some x => chunkPay I x.1 g.1.1 x.2.1 x.2.2 | none => iprop(emp))
  split
  · infer_instance
  · split <;> infer_instance

theorem duties_bar (c : Dev nD) : (Rd I).duties (barCell c) 0 = Finset.univ := by
  dsimp only [Rd]; rw [if_pos ⟨rfl, rfl⟩, if_pos rfl]
theorem duties_dma (a : Fin 4) (c : Dev nD) (h : Fin 2) (r : Fin 7) : (Rd I).duties (dCell a c h r) 0 = {0} := by
  dsimp only [Rd]; rw [if_pos ⟨rfl, rfl⟩, if_neg (osem_ne_bar (a, h, r)), ix_osem (a, h, r)]
theorem duties_later (g : GSem nD τ sig) : ∀ r, 1 ≤ r → (Rd I).duties g r = ∅ :=
  fun r hr => by dsimp only [Rd]; rw [if_neg fun h => by omega]

theorem amount_bar (c : Dev nD) (d : Fin 7) : (Rd I).amount (barCell c) 0 d = 1 := by dsimp only [Rd]; exact if_pos rfl
theorem amount_dma (a : Fin 4) (c : Dev nD) (h : Fin 2) (r : Fin 7) (d : Fin 7) : (Rd I).amount (dCell a c h r) 0 d = N := by
  dsimp only [Rd]; exact if_neg (osem_ne_bar (a, h, r))

theorem expect_bar (c : Dev nD) : (Rd I).expect (barCell c) 0 = 7 := by
  unfold Schedule.expect Schedule.amountOf
  rw [duties_bar, Finset.sum_congr rfl fun d _ => amount_bar I c d, Finset.sum_const, Finset.card_univ, Fintype.card_fin, smul_eq_mul]
theorem expect_dma (a : Fin 4) (c : Dev nD) (h : Fin 2) (r : Fin 7) : (Rd I).expect (dCell a c h r) 0 = N := by
  unfold Schedule.expect Schedule.amountOf; rw [duties_dma, Finset.sum_singleton, amount_dma]

theorem payload_bar (c : Dev nD) (d : Fin 7) : (Rd I).payload (barCell c) 0 d = room (peer d c) d := by
  dsimp only [Rd]; rw [if_pos rfl]
theorem payload_dma (a : Fin 4) (c : Dev nD) (h : Fin 2) (r : Fin 7) (d : Fin 7) : (Rd I).payload (dCell a c h r) 0 d = chunkPay I a c h r := by
  dsimp only [Rd]; rw [if_neg (osem_ne_bar (a, h, r)), ix_osem (a, h, r)]

theorem rest_bar (c : Dev nD) : bigSep ((Rd I).duties (barCell c) 0 \ ∅) (fun d => (Rd I).payload (barCell c) 0 d)
    = bigSep Finset.univ fun r => room (F := F) (peer r c) r := by
  rw [Finset.sdiff_empty, duties_bar]; exact bigSep_congr fun d _ => payload_bar I c d
theorem rest_dma (a : Fin 4) (c : Dev nD) (h : Fin 2) (r : Fin 7) :
    bigSep ((Rd I).duties (dCell a c h r) 0 \ ∅) (fun d => (Rd I).payload (dCell a c h r) 0 d) = chunkPay I a c h r := by
  rw [Finset.sdiff_empty, duties_dma, bigSep_singleton, payload_dma]

/-! ## Levels -/

/-- The one kind of unit, on the cells of the tensor cores. -/
def L (g : GSem nD τ sig) : Finset Unit := if g.1.2 = .tc then {()} else ∅

/-- Barrier cells lie at 1, the receiving cells of the first exchange at 2, those of the second at 3, all others at 0. -/
def lev (s : SemLoc sig) : ℕ :=
  if s = .reg barS then 1 else match ix s with | some x => (if x.1 = 1 then 2 else if x.1 = 3 then 3 else 0) | none => 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl
theorem lev_bar : lev (.reg barS) = 1 := if_pos rfl
theorem lev_dma (a : Fin 4) (h : Fin 2) (r : Fin 7) : lev (.dma (dsem a h r)) = if a = 1 then 2 else if a = 3 then 3 else 0 := by
  unfold lev; rw [if_neg (osem_ne_bar (a, h, r))]
  rw [show ix (.dma (dsem a h r)) = _ from ix_osem (a, h, r)]

/-! ## What a device still owes -/

section Sum
variable {T : Type} [Fintype T] (p : T → ℕ)

/-- The sum over the steps not before step `k`. -/
def sumFrom {A : Type} [AddCommMonoid A] (f : T → A) (k : ℕ) : A := ∑ t with k ≤ p t, f t

theorem sumFrom_step {A : Type} [AddCommMonoid A] (hp : Function.Injective p) (f : T → A) {k : ℕ} {t : T} (ht : p t = k) :
    sumFrom p f k = sumFrom p f (k + 1) + f t := by
  classical
  unfold sumFrom
  rw [show (Finset.univ.filter fun u => k ≤ p u) = insert t (Finset.univ.filter fun u => k + 1 ≤ p u) from ?_,
    Finset.sum_insert, add_comm]
  · rw [Finset.mem_filter]; omega
  · ext u
    simp only [Finset.mem_filter, Finset.mem_univ, true_and, Finset.mem_insert]
    constructor
    · intro h
      by_cases hu : p u = k
      · exact .inl (hp (hu.trans ht.symm))
      · exact .inr (by omega)
    · rintro (rfl | h) <;> omega

theorem sumFrom_end {A : Type} [AddCommMonoid A] (f : T → A) {k : ℕ} (hk : ∀ t, p t < k) : sumFrom p f k = 0 := by
  unfold sumFrom
  rw [Finset.filter_eq_empty_iff.mpr fun t _ => by have := hk t; omega, Finset.sum_empty]

theorem sumFrom_pos (f : T → CellTallies nD τ sig Unit) {k : ℕ} {g : GSem nD τ sig} {u : Unit} (h : 0 < sumFrom p f k g u) :
    ∃ t, k ≤ p t ∧ 0 < f t g u := by
  by_contra hn
  push Not at hn
  have : sumFrom p f k g u = 0 := by
    unfold sumFrom
    rw [Finset.sum_apply, Finsupp.finsetSum_apply]
    exact Finset.sum_eq_zero fun t ht => Nat.le_zero.mp (hn t (Finset.mem_filter.mp ht).2)
  omega
end Sum

/-- The order of the signals, of the sends of the first exchange, and of all other transfers and waits. -/
abbrev pR (r : Fin 7) : ℕ := r.val
abbrev pS (t : Fin 7 × Fin 2) : ℕ := 2 * t.1.val + t.2.val
abbrev pA (t : Fin 7 × Fin 2) : ℕ := 7 * t.2.val + t.1.val

theorem pR_inj : Function.Injective pR := fun _ _ h => Fin.ext h
theorem pS_inj : Function.Injective pS := by decide +kernel
theorem pA_inj : Function.Injective pA := by decide +kernel

def tBar (c : Dev nD) (r : Fin 7) : CellTallies nD τ sig Unit := tallyAt (barCell (peer r c)) () 1
def tRs (c : Dev nD) (t : Fin 7 × Fin 2) : CellTallies nD τ sig Unit := tallyAt (dCell 1 (peer t.1 c) t.2 t.1) () N
def tAg (c : Dev nD) (t : Fin 7 × Fin 2) : CellTallies nD τ sig Unit := tallyAt (dCell 3 (peer t.1 c) t.2 t.1) () N

/-- What device `c` owes after `a` signals, `b` sends of the first exchange and `e` sends of the second. -/
def owed (c : Dev nD) (a b e : ℕ) : CellTallies nD τ sig Unit :=
  sumFrom pR (tBar c) a + sumFrom pS (tRs c) b + sumFrom pA (tAg c) e

theorem owed_bar (c : Dev nD) {a b e : ℕ} {r : Fin 7} (h : pR r = a) : owed c a b e = owed c (a + 1) b e + tBar c r := by
  unfold owed; rw [sumFrom_step pR pR_inj (tBar c) h, add_right_comm _ (tBar c r), add_right_comm _ (tBar c r)]
theorem owed_rs (c : Dev nD) {a b e : ℕ} {t : Fin 7 × Fin 2} (h : pS t = b) : owed c a b e = owed c a (b + 1) e + tRs c t := by
  unfold owed; rw [sumFrom_step pS pS_inj (tRs c) h, ← add_assoc, add_right_comm _ (tRs c t)]
theorem owed_ag (c : Dev nD) {a b e : ℕ} {t : Fin 7 × Fin 2} (h : pA t = e) : owed c a b e = owed c a b (e + 1) + tAg c t := by
  unfold owed; rw [sumFrom_step pA pA_inj (tAg c) h, ← add_assoc]
theorem owed_end (c : Dev nD) : owed c 7 14 14 = 0 := by
  unfold owed
  rw [sumFrom_end pR _ (fun t => t.isLt), sumFrom_end pS _ (by decide +kernel), sumFrom_end pA _ (by decide +kernel), add_zero, add_zero]

theorem tallyAt_pos {g g' : GSem nD τ sig} {n : ℕ} {u : Unit} (h : 0 < (tallyAt g' () n : CellTallies nD τ sig Unit) g u) : g = g' := by
  rw [tallyAt_apply] at h
  by_contra hn
  rw [if_neg (fun h' => hn h'.1)] at h
  exact Nat.lt_irrefl 0 h

theorem owed_pos (c : Dev nD) {a b e : ℕ} {g : GSem nD τ sig} {u : Unit} (h : 0 < owed c a b e g u) :
    (∃ r : Fin 7, a ≤ r.val ∧ g = barCell (peer r c)) ∨ (∃ t : Fin 7 × Fin 2, b ≤ pS t ∧ g = dCell 1 (peer t.1 c) t.2 t.1)
      ∨ ∃ t : Fin 7 × Fin 2, e ≤ pA t ∧ g = dCell 3 (peer t.1 c) t.2 t.1 := by
  unfold owed at h
  rw [Pi.add_apply, Finsupp.add_apply, Pi.add_apply, Finsupp.add_apply] at h
  by_cases h1 : 0 < sumFrom pR (tBar c) a g u
  · obtain ⟨r, hr, hg⟩ := sumFrom_pos pR _ h1; exact .inl ⟨r, hr, tallyAt_pos hg⟩
  by_cases h2 : 0 < sumFrom pS (tRs c) b g u
  · obtain ⟨r, hr, hg⟩ := sumFrom_pos pS _ h2; exact .inr (.inl ⟨r, hr, tallyAt_pos hg⟩)
  · obtain ⟨r, hr, hg⟩ := sumFrom_pos pA _ (show 0 < sumFrom pA (tAg c) e g u by omega); exact .inr (.inr ⟨r, hr, tallyAt_pos hg⟩)

/-- A device may wait on a cell that lies below everything it still owes: after its signals only transfers are owed, after
    the first exchange only those of the second. -/
theorem mayWait (c : Dev nD) (sm : SemLoc sig) (n a b e : ℕ) (hsm : lev sm ≤ n) (ha : n < 1 ∨ 7 ≤ a) (hb : n < 2 ∨ 14 ≤ b) (he : n < 3 ∨ 14 ≤ e) :
    (levAts L lv : sProp 𝕄) ⊢ MayWait (c : Thread nD τ) sm () (owed c a b e) := by
  refine MayOwe.of_cut (L := L) (lev := lv) n (fun p hp => by rw [Finset.mem_singleton.mp hp, L_tc]; exact Finset.mem_singleton_self _)
    (fun g u hg => ?_) (fun p hp => by rw [Finset.mem_singleton.mp hp]; exact hsm) (fun g u hg => ?_)
  · rcases owed_pos c hg with ⟨r, _, rfl⟩ | ⟨t, _, rfl⟩ | ⟨t, _, rfl⟩ <;> exact Finset.mem_singleton_self _
  · rcases owed_pos c hg with ⟨r, hr, rfl⟩ | ⟨t, ht, rfl⟩ | ⟨t, ht, rfl⟩
    · show n < lev (.reg barS)
      rw [lev_bar]; have := r.isLt; omega
    · show n < lev (.dma (dsem 1 t.2 t.1))
      rw [lev_dma, if_pos rfl]; have h1 := t.1.isLt; have h2 := t.2.isLt; simp only [pS] at ht; omega
    · show n < lev (.dma (dsem 3 t.2 t.1))
      rw [lev_dma, if_neg (by decide), if_pos rfl]; have h1 := t.1.isLt; have h2 := t.2.isLt; simp only [pA] at ht; omega

/-! ## Tables: what each step needs before it and leaves after it -/

section Tbl
/-- After `k` steps: the steps before `k` have left `Post`, the others still have their `Pre`. -/
def Tbl {T : Type} [Fintype T] (p : T → ℕ) (Pre Post : T → sProp 𝕄) (k : ℕ) : sProp 𝕄 :=
  bigSep Finset.univ fun t => iprop(if p t < k then Post t else Pre t)

theorem Tbl_start {T : Type} [Fintype T] (p : T → ℕ) (Pre Post : T → sProp 𝕄) : bigSep Finset.univ Pre ⊢ Tbl p Pre Post 0 := by
  unfold Tbl; exact Entails.of_eq (bigSep_congr fun t _ => (if_neg (Nat.not_lt_zero _)).symm)
theorem Tbl_end {T : Type} [Fintype T] (p : T → ℕ) (Pre Post : T → sProp 𝕄) {k : ℕ} (hk : ∀ t, p t < k) : Tbl p Pre Post k ⊢ bigSep Finset.univ Post := by
  unfold Tbl; exact Entails.of_eq (bigSep_congr fun t _ => if_pos (hk t))

theorem Tbl_take {T : Type} [Fintype T] (p : T → ℕ) (Pre Post : T → sProp 𝕄) (hp : Function.Injective p) {k : ℕ} {t : T} (ht : p t = k) :
    Tbl p Pre Post k ⊢ iprop(Pre t ∗ (Post t -∗ Tbl p Pre Post (k + 1))) := by
  classical
  unfold Tbl
  rw [bigSep_univ_at (fun u => if p u < k then Post u else Pre u) t, bigSep_univ_at (fun u => if p u < k + 1 then Post u else Pre u) t,
    if_neg (by omega), if_pos (by omega)]
  rw [bigSep_congr (Φ := fun u => if p u < k + 1 then Post u else Pre u) (Ψ := fun u => if p u < k then Post u else Pre u)
    (fun u hu => by
      have hne : u ≠ t := Finset.ne_of_mem_erase hu
      have : p u ≠ k := fun h => hne (hp (h.trans ht.symm))
      by_cases h : p u < k
      · rw [if_pos h, if_pos (by omega)]
      · rw [if_neg h, if_neg (by omega)])]
  iintro ⟨H1, H2⟩
  isplitl [H1]; · iexact H1
  iintro H3
  isplitl [H3]; · iexact H3
  iexact H2

/-- What a step has left can be borrowed. -/
theorem Tbl_peek {T : Type} [Fintype T] (p : T → ℕ) (Pre Post : T → sProp 𝕄) {k : ℕ} {t : T} (ht : p t < k) : Tbl p Pre Post k ⊢ iprop(Post t ∗ (Post t -∗ Tbl p Pre Post k)) := by
  classical
  unfold Tbl
  rw [bigSep_univ_at (fun u => if p u < k then Post u else Pre u) t, if_pos ht]
  iintro ⟨H1, H2⟩
  isplitl [H1]; · iexact H1
  iintro H3
  isplitl [H3]; · iexact H3
  iexact H2
end Tbl

/-! ## The cells of all devices -/

/-- All cells of a device: the barrier's and the transfers'. -/
abbrev CIx : Type := Unit ⊕ (Fin 4 × Fin 2 × Fin 7)
abbrev csem : CIx → SemLoc sig := Sum.elim (fun _ => .reg barS) osem
abbrev kcell (ck : Dev nD × CIx) : GSem nD τ sig := ((ck.1 : Thread nD τ), csem ck.2)

/-- What every device knows of all cells: each keeps the schedule and stands at round 0; and the levels. -/
def Env (K : Dev nD × CIx → ℕ) : sProp 𝕄 :=
  iprop((bigSep Finset.univ fun ck => iprop(cellInv ER (Rd I) (K ck) (kcell ck) ∗ reached ER (kcell ck) 0)) ∗ levAts L lv)

instance Env_persistent (K : Dev nD × CIx → ℕ) : BI.Persistent (Env I K) := by unfold Env; infer_instance

variable (K : Dev nD × CIx → ℕ)

theorem Env_cell (ck : Dev nD × CIx) : Env I K ⊢ iprop(cellInv ER (Rd I) (K ck) (kcell ck) ∗ reached ER (kcell ck) 0) := by
  have h : bigSep Finset.univ (fun ck => iprop(cellInv ER (Rd I) (K ck) (kcell ck) ∗ reached ER (kcell ck) 0))
      ⊢ iprop(cellInv ER (Rd I) (K ck) (kcell ck) ∗ reached ER (kcell ck) 0) := bigSep_elim (Finset.mem_univ ck)
  unfold Env
  iintro ⟨H, -⟩
  iapply h; iexact H

theorem Env_lev : Env I K ⊢ (levAts L lv : sProp 𝕄) := by unfold Env; iintro ⟨-, H⟩; iexact H

end Cert.Scatter
-- ==== Proof.Steps.lean ====
/-
# The operations of the kernel, one rule each

What a device holds before and after each kind of operation, stated once for every peer, half and step.
-/
module

public import proofs.«01_k».proof.Proof.Protocol

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- What a run of a program of device `c` must establish. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (I : Ins F) (K : Dev nD × CIx → ℕ)

/-! ## The pieces of a device's state -/

/-- What the device owes, whatever it has waited on. -/
def Debt (c : Dev nD) (a b e : ℕ) : sProp 𝕄 := iprop(∃ W, owes (c : Thread nD τ) (owed c a b e) W)

/-- A chunk of a buffer with some contents. -/
abbrev some' (c : Dev nD) {sp : Space} {sh : Shape} {e : EltTy} (m : Memref sig .tc sp sh e) : sProp 𝕄 :=
  iprop(∃ X, owns (c : Thread nD τ) m fullShare X)

abbrev at0 (g : GSem nD τ sig) : sProp 𝕄 := atPos ER g 0 ∅ 0

/-- The signals still to give, each with the room handed over. -/
def TSig (c : Dev nD) (k : ℕ) : sProp 𝕄 :=
  Tbl pR (fun r => iprop(dutyTok ER (barCell (peer r c)) 0 r ∗ room c r)) (fun _ => iprop(emp)) k

/-- The tokens of a transfer from `c` to peer `r` by the arrays `a` and `a'`. -/
def toks2 (a a' : Fin 4) (c : Dev nD) (t : Fin 7 × Fin 2) : sProp 𝕄 :=
  iprop(dutyTok ER (dCell a c t.2 t.1) 0 0 ∗ dutyTok ER (dCell a' (peer t.1 c) t.2 t.1) 0 0 ∗ at0 (dCell a c t.2 t.1))
/-- What a wait needs. -/
def WPre (a : Fin 4) (c : Dev nD) (t : Fin 7 × Fin 2) : sProp 𝕄 :=
  iprop(cred (tallyAt (dCell a c t.2 t.1) () N) ∗ at0 (dCell a c t.2 t.1))
/-- What a wait leaves: the cell closed and what it pays out. -/
def WPost (a : Fin 4) (c : Dev nD) (t : Fin 7 × Fin 2) : sProp 𝕄 :=
  iprop(semVal (dCell a c t.2 t.1) 0 ∗ chunkPay I a c t.2 t.1)

/-- The sends of the first exchange, of the second, and the waits of array `a`. -/
def TRs (c : Dev nD) (k : ℕ) : sProp 𝕄 :=
  Tbl pS (fun t => iprop(toks2 0 1 c t ∗ some' (peer t.1 c) (landS t.2 t.1))) (WPre 0 c) k
def TAg (c : Dev nD) (k : ℕ) : sProp 𝕄 :=
  Tbl pA (fun t => iprop(toks2 2 3 c t ∗ some' (peer t.1 c) (resC c t.2))) (WPre 2 c) k
def TW (a : Fin 4) (p : Fin 7 × Fin 2 → ℕ) (c : Dev nD) (k : ℕ) : sProp 𝕄 := Tbl p (WPre a c) (WPost I a c) k
/-- The shares of chunk `h` that the second exchange has not yet taken. -/
def TSh (c : Dev nD) (h : Fin 2) (k : ℕ) : sProp 𝕄 :=
  Tbl pR (fun r => owns (c : Thread nD τ) (resC c h) (share r) (I.resv c h)) (fun _ => iprop(emp)) k
/-- The blocks of the result that belong to the peers. -/
def TOut (c : Dev nD) (k : ℕ) : sProp 𝕄 :=
  Tbl pA (fun t => some' c (outB (peer t.1 c) t.2))
    (fun t => owns (c : Thread nD τ) (outB (peer t.1 c) t.2) fullShare (I.outv c (peer t.1 c) t.2)) k

theorem TSig_take (c : Dev nD) {r : Fin 7} {a : ℕ} (hr : pR r = a) :
    TSig (F := F) c a ⊢ iprop((dutyTok ER (barCell (peer r c)) 0 r ∗ room c r) ∗ (emp -∗ TSig c (a + 1))) := Tbl_take pR _ _ pR_inj hr
theorem TRs_take (c : Dev nD) {t : Fin 7 × Fin 2} {b : ℕ} (hb : pS t = b) :
    TRs (F := F) c b ⊢ iprop((toks2 0 1 c t ∗ some' (peer t.1 c) (landS t.2 t.1)) ∗ (WPre 0 c t -∗ TRs c (b + 1))) := Tbl_take pS _ _ pS_inj hb
theorem TAg_take (c : Dev nD) {t : Fin 7 × Fin 2} {e : ℕ} (he : pA t = e) :
    TAg (F := F) c e ⊢ iprop((toks2 2 3 c t ∗ some' (peer t.1 c) (resC c t.2)) ∗ (WPre 2 c t -∗ TAg c (e + 1))) := Tbl_take pA _ _ pA_inj he
theorem TSh_take (c : Dev nD) (h : Fin 2) {r : Fin 7} {j : ℕ} (hj : pR r = j) :
    TSh I c h j ⊢ iprop(owns (c : Thread nD τ) (resC c h) (share r) (I.resv c h) ∗ (emp -∗ TSh I c h (j + 1))) := Tbl_take pR _ _ pR_inj hj
theorem TW_take (a : Fin 4) (p : Fin 7 × Fin 2 → ℕ) (hp : Function.Injective p) (c : Dev nD) {t : Fin 7 × Fin 2} {j : ℕ} (hj : p t = j) :
    TW I a p c j ⊢ iprop((cred (tallyAt (dCell a c t.2 t.1) () N) ∗ at0 (dCell a c t.2 t.1))
      ∗ ((semVal (dCell a c t.2 t.1) 0 ∗ chunkPay I a c t.2 t.1) -∗ TW I a p c (j + 1))) := Tbl_take p _ _ hp hj

/-! ## Signals and the barrier -/

theorem st_signal (c n : Dev nD) (r : Fin 7) {a b e : ℕ} (hr : pR r = a) (hn : n = peer r c) {s : Sem sig} (hs : s = barS)
    {α : Type} {Q : α → sProp 𝕄} {k : PUnit → Prog (TpuEff nD τ sig (Elt F) Λ₀ .tc) α} :
    iprop(Env I K ∗ Debt c a b e ∗ TSig c a)
      ⊢ iprop(((Debt c (a + 1) b e ∗ TSig c (a + 1)) -∗ WP c (k ⟨⟩) Q)
          -∗ WP c (.op (.semSignal (n : Thread nD τ) s (1#32 : BitVec 32).toInt) k) Q) := by
  subst hn hs
  unfold Debt
  iintro ⟨#HE, ⟨%W, HO⟩, HT⟩ Hk
  ihave HT := (TSig_take c hr) $$ HT
  icases HT with ⟨⟨Htok, Hroom⟩, HT⟩
  ihave #HC := (Env_cell I K (peer r c, .inl ())) $$ HE
  icases HC with ⟨HI, HR⟩
  iapply (Rounds.wp_signal 𝒱₀ ER (Rd I) (c : Thread nD τ) none (dst := (peer r c : Thread nD τ)) (κ := K (peer r c, .inl ()))
      (d := r) (by rw [duties_bar]; exact Finset.mem_univ _) ((amount_bar I (peer r c) r).trans (by decide)) () (owed c (a + 1) b e)
      (owed_bar c hr)) $$ [HO Htok Hroom]
  · isplitr; · iexact HI
    isplitl [HO]; · iexact HO
    isplitl [Htok]; · iexact Htok
    isplitl [Hroom]; · rw [payload_bar, peer_peer]; iexact Hroom
    iexact HR
  iintro HO
  iapply Hk
  isplitl [HO]; · iexists W; iexact HO
  iapply HT; iempintro

/-- The wait on the device's own barrier: the room of all peers comes with it. -/
theorem st_barrier (c : Dev nD) {s : Sem sig} (hs : s = barS)
    {α : Type} {Q : α → sProp 𝕄} {k : PUnit → Prog (TpuEff nD τ sig (Elt F) Λ₀ .tc) α} :
    iprop(Env I K ∗ Debt c 7 0 0 ∗ cred (tallyAt (barCell c) () 7) ∗ at0 (barCell c))
      ⊢ iprop(((Debt c 7 0 0 ∗ semVal (barCell c) 0 ∗ bigSep Finset.univ fun r => room (F := F) (peer r c) r) -∗ WP c (k ⟨⟩) Q)
          -∗ WP c (.op (.semWait s (7#32 : BitVec 32).toInt) k) Q) := by
  subst hs
  unfold Debt
  iintro ⟨#HE, ⟨%W, HO⟩, Hcr, Hat⟩ Hk
  ihave #HC := (Env_cell I K (c, .inl ())) $$ HE
  icases HC with ⟨HI, HR⟩
  ihave #HL := (Env_lev I K) $$ HE
  iapply (Rounds.wp_wait_rest_token 𝒱₀ ER (Rd I) (c : Thread nD τ) none (κ := K (c, .inl ()))
      (wpE_semWait_eq 𝒱₀ (c : Thread nD τ) none Set.univ) (Set.mem_univ _) () (O := owed c 7 0 0) (W := W) (R := 0) (m := 0) (T := ∅)
      (by rw [expect_bar]; decide)) $$ [Hcr HO Hat]
  · isplitr; · iexact HI
    isplitl [Hcr]; · iexact Hcr
    isplitl [HO]; · iexact HO
    isplitr; · iapply (mayWait c (.reg barS) 1 7 0 0 (by rw [lev_bar]) (by decide) (by decide) (by decide)); iexact HL
    iexact Hat
  iintro ⟨HO, Hat, -, Hpay⟩
  ihave Hp := (Entails.of_eq (rest_bar I c)) $$ Hpay
  imod (Rounds.cell_close ER (Rd I) (Set.mem_univ (K (c, .inl ()))) (fun h => h) (R := 0 + 1) (duties_later I (barCell c))) $$ [Hat] with Hz
  · isplitr; · iexact HI
    iexact Hat
  iapply Hk
  isplitl [HO]; · iexists _; iexact HO
  isplitl [Hz]; · iexact Hz
  iexact Hp

/-! ## Transfers -/

/-- A transfer of a chunk from `c` to its peer `r`: the source goes to the sending cell, the chunk to the peer's
    receiving cell. -/
theorem st_send (a a' : Fin 4) (c n : Dev nD) (t : Fin 7 × Fin 2) {src dst : Memref sig .tc .vmem S128x256 .bf16} (q : PosShare TreeShare)
    (X : S128x256.Idx → Elt F .bf16) (hn : n = peer t.1 c) {sS sD : DmaSem sig} (hS : sS = dsem a t.2 t.1) (hD : sD = dsem a' t.2 t.1)
    (hN : dst.view.amount (SemLoc.dma (dsem a' t.2 t.1)) = N)
    (hp : owns (c : Thread nD τ) src q X ⊢ chunkPay I a c t.2 t.1)
    (hp' : owns (peer t.1 c : Thread nD τ) dst fullShare X ⊢ chunkPay I a' (peer t.1 c) t.2 t.1)
    {O₀ : CellTallies nD τ sig Unit} (O : CellTallies nD τ sig Unit) (hO : O₀ = O + tallyAt (dCell a' (peer t.1 c) t.2 t.1) () N)
    {hsc : dst.view.ref.isScScratch = false} {hsrc : src.view.WordExact} {hdst : dst.view.WordExact}
    {hsem : DmaTarget.Typed .vmem (.dma sD) (.remote (Dev.tc n : Thread nD τ) dst (.dma sS) hsc)}
    {α : Type} {Q : α → sProp 𝕄} {k : PUnit → Prog (TpuEff nD τ sig (Elt F) Λ₀ .tc) α} :
    iprop(Env I K ∗ (∃ W, owes (c : Thread nD τ) O₀ W) ∗ toks2 a a' c t ∗ some' (peer t.1 c) dst ∗ owns (c : Thread nD τ) src q X)
      ⊢ iprop((((∃ W, owes (c : Thread nD τ) O W) ∗ WPre a c t) -∗ WP c (k ⟨⟩) Q)
          -∗ WP c (.op (.enqueueDma src (.remote (Dev.tc n : Thread nD τ) dst (.dma sS) hsc) (.dma sD) hsrc hdst hsem) k) Q) := by
  subst hn hS hD
  unfold toks2 WPre
  iintro ⟨#HE, ⟨%W, HO⟩, ⟨Ht1, Ht2, Hat⟩, ⟨%Y, Hdst⟩, Hsrc⟩ Hk
  ihave Hsrc := (show owns (c : Thread nD τ) src q X ⊢ iprop(∃ f, ⌜src.view.read (Elt F) f = X⌝ ∗ src.view.loc (c : Thread nD τ) ↦[src.view.set]{q} f) from .rfl) $$ Hsrc
  icases Hsrc with ⟨%fs, %hfs, Hsrc⟩
  ihave Hdst := (show owns (peer t.1 c : Thread nD τ) dst fullShare Y ⊢ iprop(∃ f, ⌜dst.view.read (Elt F) f = Y⌝ ∗ dst.view.loc (peer t.1 c : Thread nD τ) ↦[dst.view.set]{fullShare} f) from .rfl) $$ Hdst
  icases Hdst with ⟨%fd, %hfd, Hdst⟩
  ihave #HC := (Env_cell I K (c, .inr (a, t.2, t.1))) $$ HE
  icases HC with ⟨HI1, HR1⟩
  ihave #HC := (Env_cell I K (peer t.1 c, .inr (a', t.2, t.1))) $$ HE
  icases HC with ⟨HI2, HR2⟩
  iapply (Rounds.wp_send_pointsTo 𝒱₀ ER (Rd I) (c : Thread nD τ) none (κ₁ := K (c, .inr (a, t.2, t.1))) (κ₂ := K (peer t.1 c, .inr (a', t.2, t.1)))
    (r₁ := 0) (r₂ := 0) (d₁ := 0) (d₂ := 0) (fs := fs) (fd := fd)
    (by rw [duties_dma I a c t.2 t.1]; exact Finset.mem_singleton_self _) (by rw [duties_dma I a' (peer t.1 c) t.2 t.1]; exact Finset.mem_singleton_self _)
    () () N hN (amount_dma I a c t.2 t.1 0) (amount_dma I a' (peer t.1 c) t.2 t.1 0) O hO (W := W)
    (by
      rw [payload_dma I a c t.2 t.1]; subst hfs
      exact (owns_intro (c : Thread nD τ) src q fs).trans hp)
    (by
      rw [payload_dma I a' (peer t.1 c) t.2 t.1]
      refine (owns_intro (peer t.1 c : Thread nD τ) dst fullShare _).trans ?_
      rw [View.read_write_univ, hfs]; exact hp')) $$ [HO Ht1 Ht2 Hsrc Hdst]
  · isplitr; · iexact HI1
    isplitr; · iexact HI2
    isplitl [Hsrc]; · iexact Hsrc
    isplitl [Hdst]; · iexact Hdst
    isplitl [HO]; · iexact HO
    isplitl [Ht1]; · iexact Ht1
    isplitr; · iexact HR1
    isplitl [Ht2]; · iexact Ht2
    iexact HR2
  iintro ⟨Hcr, HO⟩
  iapply Hk
  isplitl [HO]; · iexists W; iexact HO
  isplitl [Hcr]; · iexact Hcr
  iexact Hat

/-- A send of the first exchange. -/
theorem st_rs (c n : Dev nD) (t : Fin 7 × Fin 2) {b : ℕ} (hb : pS t = b) (hn : n = peer t.1 c)
    {src dst : Memref sig .tc .vmem S128x256 .bf16} (hs : src = sendC (peer t.1 c) t.2) (hd : dst = landS t.2 t.1)
    {sS sD : DmaSem sig} (hS : sS = dsem 0 t.2 t.1) (hD : sD = dsem 1 t.2 t.1)
    {hsc : dst.view.ref.isScScratch = false} {hsrc : src.view.WordExact} {hdst : dst.view.WordExact}
    {hsem : DmaTarget.Typed .vmem (.dma sD) (.remote (Dev.tc n : Thread nD τ) dst (.dma sS) hsc)}
    {α : Type} {Q : α → sProp 𝕄} {k : PUnit → Prog (TpuEff nD τ sig (Elt F) Λ₀ .tc) α} :
    iprop(Env I K ∗ Debt c 7 b 0 ∗ TRs c b ∗ owns (c : Thread nD τ) (sendC (peer t.1 c) t.2) fullShare (I.part c (peer t.1 c) t.2))
      ⊢ iprop(((Debt c 7 (b + 1) 0 ∗ TRs c (b + 1)) -∗ WP c (k ⟨⟩) Q)
          -∗ WP c (.op (.enqueueDma src (.remote (Dev.tc n : Thread nD τ) dst (.dma sS) hsc) (.dma sD) hsrc hdst hsem) k) Q) := by
  subst hs hd
  iintro ⟨#HE, HO, HT, Hsrc⟩ Hk
  ihave HT := (TRs_take c hb) $$ HT
  icases HT with ⟨⟨Htok, Hdst⟩, HT⟩
  iapply (st_send I K 0 1 c n t fullShare (I.part c (peer t.1 c) t.2) hn hS hD (N_land t.2 t.1) .rfl
    (by show _ ⊢ owns (peer t.1 c : Thread nD τ) (landS t.2 t.1) fullShare (I.part (peer t.1 (peer t.1 c)) (peer t.1 c) t.2)
        rw [peer_peer]) (owed c 7 (b + 1) 0) (owed_rs c hb)) $$ [HO Htok Hdst Hsrc]
  · isplitr; · iexact HE
    isplitl [HO]; · unfold Debt; iexact HO
    isplitl [Htok]; · iexact Htok
    isplitl [Hdst]; · iexact Hdst
    iexact Hsrc
  iintro ⟨HO, HW⟩
  iapply Hk
  isplitl [HO]; · unfold Debt; iexact HO
  iapply HT; iexact HW

/-- A send of the second exchange. -/
theorem st_ag (c n : Dev nD) (t : Fin 7 × Fin 2) {e j : ℕ} (he : pA t = e) (hj : pR t.1 = j) (hn : n = peer t.1 c)
    {src dst : Memref sig .tc .vmem S128x256 .bf16} (hs : src = resC c t.2) (hd : dst = resC c t.2)
    {sS sD : DmaSem sig} (hS : sS = dsem 2 t.2 t.1) (hD : sD = dsem 3 t.2 t.1)
    {hsc : dst.view.ref.isScScratch = false} {hsrc : src.view.WordExact} {hdst : dst.view.WordExact}
    {hsem : DmaTarget.Typed .vmem (.dma sD) (.remote (Dev.tc n : Thread nD τ) dst (.dma sS) hsc)}
    {α : Type} {Q : α → sProp 𝕄} {k : PUnit → Prog (TpuEff nD τ sig (Elt F) Λ₀ .tc) α} :
    iprop(Env I K ∗ Debt c 7 14 e ∗ TAg c e ∗ TSh I c t.2 j)
      ⊢ iprop(((Debt c 7 14 (e + 1) ∗ TAg c (e + 1) ∗ TSh I c t.2 (j + 1)) -∗ WP c (k ⟨⟩) Q)
          -∗ WP c (.op (.enqueueDma src (.remote (Dev.tc n : Thread nD τ) dst (.dma sS) hsc) (.dma sD) hsrc hdst hsem) k) Q) := by
  subst hs hd
  iintro ⟨#HE, HO, HT, HS⟩ Hk
  ihave HT := (TAg_take c he) $$ HT
  icases HT with ⟨⟨Htok, Hdst⟩, HT⟩
  ihave HS := (TSh_take I c t.2 hj) $$ HS
  icases HS with ⟨Hsrc, HS⟩
  iapply (st_send I K 2 3 c n t (share t.1) (I.resv c t.2) hn hS hD (N_res c t.2) .rfl
    (by simp only [chunkPay, peer_peer]; exact .rfl) (owed c 7 14 (e + 1)) (owed_ag c he)) $$ [HO Htok Hdst Hsrc]
  · isplitr; · iexact HE
    isplitl [HO]; · unfold Debt; iexact HO
    isplitl [Htok]; · iexact Htok
    isplitl [Hdst]; · iexact Hdst
    iexact Hsrc
  iintro ⟨HO, HW⟩
  iapply Hk
  isplitl [HO]; · unfold Debt; iexact HO
  isplitl [HT HW]; · iapply HT; iexact HW
  iapply HS; iempintro

/-- A wait on a transfer cell of the device itself: what the cell pays out comes with it, and the cell is closed. -/
theorem st_wait (a : Fin 4) (p : Fin 7 × Fin 2 → ℕ) (hp : Function.Injective p) (c : Dev nD) (t : Fin 7 × Fin 2) {j e : ℕ} (hj : p t = j) (he : a = 1 ∨ e = 14)
    {s : DmaSem sig} (hs : s = dsem a t.2 t.1) {src dst : Memref sig .tc .vmem S128x256 .bf16} (hN : dst.view.dmaCredit = N)
    {hsrc : src.view.WordExact} {hdst : dst.view.WordExact}
    {α : Type} {Q : α → sProp 𝕄} {k : PUnit → Prog (TpuEff nD τ sig (Elt F) Λ₀ .tc) α} :
    iprop(Env I K ∗ Debt c 7 14 e ∗ TW I a p c j)
      ⊢ iprop(((Debt c 7 14 e ∗ TW I a p c (j + 1)) -∗ WP c (k ⟨⟩) Q)
          -∗ WP c (.op (.waitDma2 s src dst hsrc hdst) k) Q) := by
  subst hs
  unfold Debt
  iintro ⟨#HE, ⟨%W, HO⟩, HT⟩ Hk
  ihave HT := (TW_take I a p hp c hj) $$ HT
  icases HT with ⟨⟨Hcr, Hat⟩, HT⟩
  ihave #HC := (Env_cell I K (c, .inr (a, t.2, t.1))) $$ HE
  icases HC with ⟨HI, HR⟩
  ihave #HL := (Env_lev I K) $$ HE
  iapply (Rounds.wp_wait_rest_token 𝒱₀ ER (Rd I) (c : Thread nD τ) none (κ := K (c, .inr (a, t.2, t.1))) (k' := dst.view.dmaCredit)
      (wpE_waitDma2_eq 𝒱₀ (c : Thread nD τ) none Set.univ) (Set.mem_univ _) () (O := owed c 7 14 e) (W := W) (R := 0) (m := 0) (T := ∅)
      (by rw [Nat.zero_add, hN]; exact (expect_dma I a c t.2 t.1).symm)) $$ [Hcr HO Hat]
  · isplitr; · iexact HI
    isplitl [Hcr]; · rw [hN]; iexact Hcr
    isplitl [HO]; · iexact HO
    isplitr
    · rcases he with rfl | rfl
      · iapply (mayWait c (.dma (dsem 1 t.2 t.1)) 2 7 14 e (by rw [lev_dma, if_pos rfl]) (by decide) (by decide) (.inl (by decide))); iexact HL
      · iapply (mayWait c (.dma (dsem a t.2 t.1)) 3 7 14 14 (by rw [lev_dma]; split <;> [decide; (split <;> decide)]) (by decide) (by decide) (by decide)); iexact HL
    iexact Hat
  iintro ⟨HO, Hat, -, Hpay⟩
  ihave Hp := (Entails.of_eq (rest_dma I a c t.2 t.1)) $$ Hpay
  imod (Rounds.cell_close ER (Rd I) (Set.mem_univ (K (c, .inr (a, t.2, t.1)))) (fun h => h) (R := 0 + 1) (duties_later I (dCell a c t.2 t.1))) $$ [Hat] with Hz
  · isplitr; · iexact HI
    iexact Hat
  iapply Hk
  isplitl [HO]; · iexists _; iexact HO
  iapply HT
  isplitl [Hz]; · iexact Hz
  iexact Hp

/-! ## Loads and stores -/

/-- A load of a rectangle of a buffer held at `X`. -/
theorem st_load (c : Dev nD) {sh : Shape} {e : EltTy} {m : Memref sig .tc .vmem sh e} {q : PosShare TreeShare} {X : sh.Idx → Elt F e}
    {off off' sz : Fin sh.rank → ℕ} {inb : ∀ a, off a + sz a ≤ sh.size a} {inb' : ∀ a, off' a + sz a ≤ sh.size a} (h : off = off')
    {hl : m.view.LoadsAt (Rect.unit off sz inb).toLoadRect}
    {α : Type} {Q : α → sProp 𝕄} {k : ((Rect.unit off sz inb).toLoadRect.shape.Idx → Elt F e) → Prog (TpuEff nD τ sig (Elt F) Λ₀ .tc) α} :
    (owns (c : Thread nD τ) m q X : sProp 𝕄)
      ⊢ iprop((owns (c : Thread nD τ) m q X -∗ WP c (k fun j => X ((Rect.unit off' sz inb').emb j)) Q)
          -∗ WP c (.op (.load m (Rect.unit off sz inb).toLoadRect hl) k) Q) := by
  subst h
  iintro H Hk
  ihave H := (show owns (c : Thread nD τ) m q X ⊢ iprop(∃ f, ⌜m.view.read (Elt F) f = X⌝ ∗ m.view.loc (c : Thread nD τ) ↦[m.view.set]{q} f) from .rfl) $$ H
  icases H with ⟨%f, %hf, H⟩
  subst hf
  iapply (wp_load_rect 𝒱₀ (c : Thread nD τ) none Set.univ (m := m) (r := Rect.unit off sz inb) (View.set_slice_subset _ _)) $$ H
  iintro H
  ihave H := (owns_intro (c : Thread nD τ) m q f) $$ H
  ihave Hk := Hk $$ H
  iexact Hk

/-- A load of a slice held at `X`. -/
theorem st_ldslice (c : Dev nD) {sh : Shape} {e : EltTy} {m : Memref sig .tc .vmem sh e} {q : PosShare TreeShare}
    {off off' sz : Fin sh.rank → ℕ} {inb : ∀ a, off a + sz a ≤ sh.size a} {inb' : ∀ a, off' a + sz a ≤ sh.size a} (h : off = off')
    {X : (Rect.unit off' sz inb').shape.Idx → Elt F e}
    {hl : m.view.LoadsAt (Rect.unit off sz inb).toLoadRect}
    {α : Type} {Q : α → sProp 𝕄} {k : ((Rect.unit off sz inb).toLoadRect.shape.Idx → Elt F e) → Prog (TpuEff nD τ sig (Elt F) Λ₀ .tc) α} :
    (owns (c : Thread nD τ) (m.slice (Rect.unit off' sz inb') (fun _ => rfl)) q X : sProp 𝕄)
      ⊢ iprop((owns (c : Thread nD τ) (m.slice (Rect.unit off' sz inb') (fun _ => rfl)) q X -∗ WP c (k X) Q)
          -∗ WP c (.op (.load m (Rect.unit off sz inb).toLoadRect hl) k) Q) := by
  subst h
  iintro H Hk
  ihave H := (show owns (c : Thread nD τ) (m.slice (Rect.unit off sz inb) (fun _ => rfl)) q X ⊢ iprop(∃ f, ⌜(m.slice (Rect.unit off sz inb) (fun _ => rfl)).view.read (Elt F) f = X⌝
    ∗ (m.slice (Rect.unit off sz inb) (fun _ => rfl)).view.loc (c : Thread nD τ) ↦[(m.slice (Rect.unit off sz inb) (fun _ => rfl)).view.set]{q} f) from .rfl) $$ H
  icases H with ⟨%f, %hf, H⟩
  subst hf
  iapply (wp_load_rect 𝒱₀ (c : Thread nD τ) none Set.univ (m := m) (r := Rect.unit off sz inb) (Finset.Subset.refl _)) $$ H
  iintro H
  ihave H := (owns_intro (c : Thread nD τ) (m.slice (Rect.unit off sz inb) (fun _ => rfl)) q f) $$ H
  ihave Hk := Hk $$ H
  iexact Hk

/-- A store to a slice. -/
theorem st_stslice (c : Dev nD) {sh : Shape} {e : EltTy} {m : Memref sig .tc .vmem sh e}
    {off off' sz : Fin sh.rank → ℕ} {inb : ∀ a, off a + sz a ≤ sh.size a} {inb' : ∀ a, off' a + sz a ≤ sh.size a} (h : off = off')
    {w : (Rect.unit off sz inb).shape.Idx → Elt F e}
    {hx : (m.access (Rect.unit off sz inb)).Stores Finset.univ} {hm : (Finset.univ : Finset (Rect.unit off sz inb).shape.Idx) = Finset.univ ∨ ∀ a, (Rect.unit off sz inb).stride a = 1}
    {α : Type} {Q : α → sProp 𝕄} {k : PUnit → Prog (TpuEff nD τ sig (Elt F) Λ₀ .tc) α} :
    (some' c (m.slice (Rect.unit off' sz inb') (fun _ => rfl)) : sProp 𝕄)
      ⊢ iprop((owns (c : Thread nD τ) (m.slice (Rect.unit off' sz inb') (fun _ => rfl)) fullShare w -∗ WP c (k ⟨⟩) Q)
          -∗ WP c (.op (.store m (Rect.unit off sz inb) w Finset.univ hx hm) k) Q) := by
  subst h
  iintro ⟨%X, H⟩ Hk
  ihave H := (show owns (c : Thread nD τ) (m.slice (Rect.unit off sz inb) (fun _ => rfl)) fullShare X ⊢ iprop(∃ f, ⌜(m.slice (Rect.unit off sz inb) (fun _ => rfl)).view.read (Elt F) f = X⌝
    ∗ (m.slice (Rect.unit off sz inb) (fun _ => rfl)).view.loc (c : Thread nD τ) ↦[(m.slice (Rect.unit off sz inb) (fun _ => rfl)).view.set]{fullShare} f) from .rfl) $$ H
  icases H with ⟨%f, %hf, H⟩
  iapply (wp_store 𝒱₀ (c : Thread nD τ) none Set.univ (m := m) (r := Rect.unit off sz inb) (Mk := Finset.univ)
    (S := (m.access (Rect.unit off sz inb)).set) (Finset.Subset.refl _)) $$ H
  iintro H
  iapply Hk
  have hh := owns_intro (Ix := Unit) (Name := ℕ) (U := UU) (Lvl := ℕ) (c : Thread nD τ) (m.slice (Rect.unit off sz inb) (fun _ => rfl)) fullShare ((m.access (Rect.unit off sz inb)).write (Elt F) f w Finset.univ)
  rw [show (m.slice (Rect.unit off sz inb) (fun _ => rfl)).view.read (Elt F) ((m.access (Rect.unit off sz inb)).write (Elt F) f w Finset.univ) = w from View.read_write_univ _ _] at hh
  iapply hh
  iexact H

end Cert.Scatter
-- ==== Proof.Tiles.lean ====
/-
# Buffers in pieces

A buffer held in pieces can be joined, written across several pieces and split again.
-/
module

public import proofs.«01_k».proof.Proof.Steps

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

instance elt_nonempty (e : EltTy) : Nonempty (Elt F e) := inferInstance

/-- A piece with any contents is its cells with any contents. -/
theorem some_cells (c : Dev nD) {sh : Shape} {e : EltTy} (m : Memref sig .tc .vmem sh e) :
    some' (F := F) c m ⊢ iprop(∃ g, m.view.loc (c : Thread nD τ) ↦[m.view.set]{fullShare} g) := by
  unfold some' owns
  iintro ⟨%X, %g, -, H⟩
  iexists g; iexact H

theorem some_intro (c : Dev nD) {sh : Shape} {e : EltTy} (m : Memref sig .tc .vmem sh e) (X : sh.Idx → Elt F e) :
    owns (c : Thread nD τ) m fullShare X ⊢ some' (F := F) c m := by
  unfold some'
  iintro H
  iexists X; iexact H

section Family
variable {T : Type} [Fintype T] [DecidableEq T] (c : Dev nD) {sh : Shape} {e : EltTy} (m : Memref sig .tc .vmem sh e)
  (r : T → Rect sh) (hr : ∀ t a, (r t).stride a = 1) (hd : ∀ t t', t ≠ t' → Disjoint (r t).set (r t').set)

include hd in
/-- Pieces with any contents are one piece with some contents. -/
theorem some_join :
    bigSep Finset.univ (fun t => some' (F := F) c (m.slice (r t) (hr t)))
      ⊢ iprop(∃ g, m.view.loc (c : Thread nD τ) ↦[Finset.univ.biUnion fun t => (m.view.slice (r t)).set]{fullShare} g) := by
  have h1 : bigSep Finset.univ (fun t => some' (F := F) c (m.slice (r t) (hr t)))
      ⊢ bigSep Finset.univ (fun t => iprop(∃ g : Buf (Elt F) (m.view.loc (c : Thread nD τ)), m.view.loc (c : Thread nD τ) ↦[(m.view.slice (r t)).set]{fullShare} g)) := by
    exact bigSep_mono fun t _ => some_cells c _
  have : Nonempty (Buf (Elt F) (m.view.loc (c : Thread nD τ))) := ⟨fun _ => Classical.arbitrary _⟩
  refine h1.trans ((bigSep_exists_pi (Y := fun _ => Buf (Elt F) (m.view.loc (c : Thread nD τ))) Finset.univ _).trans ?_)
  iintro ⟨%fs, H⟩
  ihave H := (pointsTo_biUnion_join (Ix := Unit) (Name := ℕ) (U := UU) (Lvl := ℕ) (ℓ := m.view.loc (c : Thread nD τ)) (q := fullShare) Finset.univ (fun t => (m.view.slice (r t)).set) fs (Classical.arbitrary _)
    (fun t _ t' _ htt => by rw [View.set_slice, View.set_slice]; exact (Finset.disjoint_map _).mpr (hd t t' htt))) $$ H
  icases H with ⟨%g, -, H⟩
  iexists g; iexact H

include hd in
/-- One piece, split: each part reads its part of the contents. -/
theorem join_split (g : Buf (Elt F) (m.view.loc (c : Thread nD τ))) :
    (m.view.loc (c : Thread nD τ) ↦[Finset.univ.biUnion fun t => (m.view.slice (r t)).set]{fullShare} g : sProp 𝕄)
      ⊢ bigSep Finset.univ (fun t => owns (c : Thread nD τ) (m.slice (r t) (hr t)) fullShare (fun j => m.view.read (Elt F) g ((r t).emb j))) := by
  rw [pointsTo_biUnion (Ix := Unit) (Name := ℕ) (U := UU) (Lvl := ℕ) (ℓ := m.view.loc (c : Thread nD τ)) (q := fullShare) (f := g) Finset.univ (fun t => (m.view.slice (r t)).set)
    (fun t _ t' _ htt => by rw [View.set_slice, View.set_slice]; exact (Finset.disjoint_map _).mpr (hd t t' htt))]
  exact bigSep_mono fun t _ => Entails.of_eq (owns_slice_read (c : Thread nD τ) m fullShare (r t) (hr t) g).symm

include hd in
/-- Pieces that cover the buffer are the buffer. -/
theorem some_whole (hcov : Finset.univ.biUnion (fun t => (r t).set) = Finset.univ) :
    bigSep Finset.univ (fun t => some' (F := F) c (m.slice (r t) (hr t))) ⊢ some' (F := F) c m := by
  refine (some_join c m r hr hd).trans ?_
  iintro ⟨%g, H⟩
  ihave H := (join_split c m r hr hd g) $$ H
  ihave H := (owns_of_rects (c : Thread nD τ) m fullShare r hr hd hcov (m.view.read (Elt F) g)) $$ H
  iexists _; iexact H

include hd in
/-- A load across pieces: the contents are whatever they are. -/
theorem st_load_any {off sz : Fin sh.rank → ℕ} {inb : ∀ a, off a + sz a ≤ sh.size a}
    (hsub : (Rect.unit off sz inb).set ⊆ Finset.univ.biUnion fun t => (r t).set)
    {hl : m.view.LoadsAt (Rect.unit off sz inb).toLoadRect}
    {α : Type} {Q : α → sProp 𝕄} {k : ((Rect.unit off sz inb).toLoadRect.shape.Idx → Elt F e) → Prog (TpuEff nD τ sig (Elt F) Λ₀ .tc) α} :
    bigSep Finset.univ (fun t => some' (F := F) c (m.slice (r t) (hr t)))
      ⊢ iprop((∀ v, bigSep Finset.univ (fun t => some' (F := F) c (m.slice (r t) (hr t))) -∗ WP c (k v) Q)
          -∗ WP c (.op (.load m (Rect.unit off sz inb).toLoadRect hl) k) Q) := by
  refine (some_join c m r hr hd).trans ?_
  iintro ⟨%g, H⟩ Hk
  iapply (wp_load_rect 𝒱₀ (c : Thread nD τ) none Set.univ (m := m) (r := Rect.unit off sz inb) (slice_sub m r hsub)) $$ H
  iintro H
  ihave H := (join_split c m r hr hd g) $$ H
  ihave H := (show _ ⊢ bigSep Finset.univ (fun t => some' (F := F) c (m.slice (r t) (hr t))) from bigSep_mono fun t _ => some_intro c _ _) $$ H
  ihave Hk := Hk $$ %_ H
  iexact Hk
where
  slice_sub {sh : Shape} {e : EltTy} (m : Memref sig .tc .vmem sh e) (r : T → Rect sh) {R : Rect sh} (hsub : R.set ⊆ Finset.univ.biUnion fun t => (r t).set) :
      (m.access R).set ⊆ Finset.univ.biUnion fun t => (m.view.slice (r t)).set := by
    intro i hi
    rw [View.set_slice] at hi
    obtain ⟨x, hx, rfl⟩ := Finset.mem_map.mp hi
    obtain ⟨t, ht, hxt⟩ := Finset.mem_biUnion.mp (hsub hx)
    refine Finset.mem_biUnion.mpr ⟨t, ht, ?_⟩
    rw [View.set_slice]; exact Finset.mem_map.mpr ⟨x, hxt, rfl⟩

include hd in
/-- A store across pieces that it covers: each piece holds its part of the value. -/
theorem st_store_tiles {off sz : Fin sh.rank → ℕ} {inb : ∀ a, off a + sz a ≤ sh.size a}
    (hsub : (Rect.unit off sz inb).set ⊆ Finset.univ.biUnion fun t => (r t).set)
    {w : (Rect.unit off sz inb).shape.Idx → Elt F e}
    (emb : ∀ t, (r t).shape.Idx → (Rect.unit off sz inb).shape.Idx) (hemb : ∀ t j, (Rect.unit off sz inb).emb (emb t j) = (r t).emb j)
    {hx : (m.access (Rect.unit off sz inb)).Stores Finset.univ} {hm : (Finset.univ : Finset (Rect.unit off sz inb).shape.Idx) = Finset.univ ∨ ∀ a, (Rect.unit off sz inb).stride a = 1}
    {α : Type} {Q : α → sProp 𝕄} {k : PUnit → Prog (TpuEff nD τ sig (Elt F) Λ₀ .tc) α} :
    bigSep Finset.univ (fun t => some' (F := F) c (m.slice (r t) (hr t)))
      ⊢ iprop((bigSep Finset.univ (fun t => owns (c : Thread nD τ) (m.slice (r t) (hr t)) fullShare (fun j => w (emb t j))) -∗ WP c (k ⟨⟩) Q)
          -∗ WP c (.op (.store m (Rect.unit off sz inb) w Finset.univ hx hm) k) Q) := by
  refine (some_join c m r hr hd).trans ?_
  iintro ⟨%g, H⟩ Hk
  iapply (wp_store 𝒱₀ (c : Thread nD τ) none Set.univ (m := m) (r := Rect.unit off sz inb) (Mk := Finset.univ) (st_load_any.slice_sub m r hsub)) $$ H
  iintro H
  ihave H := (join_split c m r hr hd _) $$ H
  iapply Hk
  rw [bigSep_congr (s := Finset.univ) (Φ := fun t => owns (Ix := Unit) (Name := ℕ) (U := UU) (Lvl := ℕ) (c : Thread nD τ) (m.slice (r t) (hr t)) fullShare (fun j => w (emb t j)))
    (Ψ := fun t => owns (c : Thread nD τ) (m.slice (r t) (hr t)) fullShare (fun j => m.view.read (Elt F) ((m.access (Rect.unit off sz inb)).write (Elt F) g w Finset.univ) ((r t).emb j)))
    (fun t _ => by
      congr 1; funext j
      rw [← hemb t j]
      exact (congrFun (View.read_write_univ (v := m.access (Rect.unit off sz inb)) g w) (emb t j)).symm)]
  iexact H
end Family

/-! ## One batch of the sending buffer -/

/-- The chunks of `c` for device `d`, with any contents, and with the partial product. -/
def anyC (c d : Dev nD) : sProp 𝕄 := bigSep Finset.univ fun h : Fin 2 => some' c (sendC d h)
def partC (c d : Dev nD) : sProp 𝕄 := bigSep Finset.univ fun h : Fin 2 => owns (c : Thread nD τ) (sendC d h) fullShare (I.part c d h)

theorem anyC_two (c d e : Dev nD) : bigSep Finset.univ (fun t => some' (F := F) c (sendM.slice (cR (two d e t)) (fun _ => rfl))) = iprop(anyC c d ∗ anyC c e) := by
  rw [bigSep_univ_prod, bigSep_fin_two]; rfl

theorem sent_congr (c : Dev nD) {d e : Dev nD} (h : bat d = bat e) : I.sent c d = I.sent c e := by
  have hx : I.xv c d = I.xv c e := by
    unfold Ins.xv
    have : ∀ (o o' : Fin 3 → ℕ) (p : ∀ a, o a + S1x512x256.size a ≤ S4x512x256.size a) (p' : ∀ a, o' a + S1x512x256.size a ≤ S4x512x256.size a), o = o' →
        (fun j => I.x c ((Rect.unit (s := S4x512x256) o S1x512x256.size p).emb j)) = fun j => I.x c ((Rect.unit (s := S4x512x256) o' S1x512x256.size p').emb j) := by
      intro o o' p p' ho; subst ho; rfl
    exact this _ _ _ _ (by rw [h])
  unfold Ins.sent; rw [hx]

theorem partC_two (c d e : Dev nD) (hb : bat d = bat e) :
    bigSep Finset.univ (fun t => owns (Ix := Unit) (Name := ℕ) (U := UU) (Lvl := ℕ) (c : Thread nD τ) (sendM.slice (cR (two d e t)) (fun _ => rfl)) fullShare (fun j => I.sent c d ((qR (two d e t)).emb j)))
      = iprop(partC I c d ∗ partC I c e) := by
  rw [bigSep_univ_prod, bigSep_fin_two]
  have : partC I c e = bigSep Finset.univ fun h : Fin 2 => owns (Ix := Unit) (Name := ℕ) (U := UU) (Lvl := ℕ) (c : Thread nD τ) (sendC e h) fullShare (fun j => I.sent c d ((qR (e, h)).emb j)) := by
    unfold partC Ins.part; rw [sent_congr I c hb]
  rw [this]; rfl

theorem two_disj {d e : Dev nD} (h : d ≠ e) (t t' : Fin 2 × Fin 2) (ht : t ≠ t') : Disjoint (cR (two d e t)).set (cR (two d e t')).set :=
  cR_disj _ _ fun h' => ht (two_inj h h')

theorem st_ldbatch (c d e : Dev nD) (hde : d ≠ e) (hb : bat d = bat e) {off : Fin 2 → ℕ} (ho : off = ![512 * bat d, 0])
    {inb : ∀ a, off a + S512x256.size a ≤ S2048x256.size a}
    {hl : (sendM : Memref sig .tc .vmem S2048x256 .bf16).view.LoadsAt (Rect.unit (s := S2048x256) off S512x256.size inb).toLoadRect}
    {α : Type} {Q : α → sProp 𝕄} {k : (S512x256.Idx → Elt F .bf16) → Prog (TpuEff nD τ sig (Elt F) Λ₀ .tc) α} :
    iprop(anyC c d ∗ anyC c e)
      ⊢ iprop((∀ v, (anyC c d ∗ anyC c e) -∗ WP c (k v) Q)
          -∗ WP c (.op (.load sendM (Rect.unit (s := S2048x256) off S512x256.size inb).toLoadRect hl) k) Q) := by
  subst ho
  rw [← anyC_two]
  exact st_load_any c sendM (fun t => cR (two d e t)) (fun _ _ => rfl) (two_disj hde) (bR_sub hde hb)

theorem st_stbatch (c d e : Dev nD) (hde : d ≠ e) (hb : bat d = bat e) {off : Fin 2 → ℕ} (ho : off = ![512 * bat d, 0])
    {inb : ∀ a, off a + S512x256.size a ≤ S2048x256.size a} {w : S512x256.Idx → Elt F .bf16} (hw : w = I.sent c d)
    {hx : ((sendM : Memref sig .tc .vmem S2048x256 .bf16).access (Rect.unit (s := S2048x256) off S512x256.size inb)).Stores Finset.univ}
    {hm : (Finset.univ : Finset (Rect.unit (s := S2048x256) off S512x256.size inb).shape.Idx) = Finset.univ ∨ ∀ a, (Rect.unit (s := S2048x256) off S512x256.size inb).stride a = 1}
    {α : Type} {Q : α → sProp 𝕄} {k : PUnit → Prog (TpuEff nD τ sig (Elt F) Λ₀ .tc) α} :
    iprop(anyC c d ∗ anyC c e)
      ⊢ iprop(((partC I c d ∗ partC I c e) -∗ WP c (k ⟨⟩) Q)
          -∗ WP c (.op (.store sendM (Rect.unit (s := S2048x256) off S512x256.size inb) w Finset.univ hx hm) k) Q) := by
  subst ho hw
  rw [← anyC_two, ← partC_two I c d e hb]
  refine st_store_tiles c sendM (fun t => cR (two d e t)) (fun _ _ => rfl) (two_disj hde) (bR_sub hde hb) (fun t => (qR (two d e t)).emb) (fun t j => ?_)
  have hbt : bat (two d e t).1 = bat d := by unfold two; dsimp only; split; · rfl
                                             exact hb.symm
  rw [← show (bR (two d e t).1).emb ((qR (two d e t)).emb j) = (cR (two d e t)).emb j from bR_qR _ _ _]
  funext a; apply Fin.ext
  have : (bR (two d e t).1).emb ((qR (two d e t)).emb j) a = (bR d).emb ((qR (two d e t)).emb j) a := by
    apply Fin.ext
    show (![512 * bat (two d e t).1, 0] : Fin 2 → ℕ) a + 1 * _ = (![512 * bat d, 0] : Fin 2 → ℕ) a + 1 * _
    rw [hbt]
  rw [this]

/-! ## The kept partial product and the result -/

theorem zero2 : (![0, 0] : Fin 2 → ℕ) = fun _ => 0 := funext fun a => by fin_cases a <;> rfl

theorem st_stnear (c : Dev nD) {w : S512x256.Idx → Elt F .f32} {off : Fin 2 → ℕ} (ho : off = ![0, 0]) {inb : ∀ a, off a + S512x256.size a ≤ S512x256.size a}
    {hx : ((nearM : Memref sig .tc .vmem S512x256 .f32).access (Rect.unit (s := S512x256) off S512x256.size inb)).Stores Finset.univ}
    {hm : (Finset.univ : Finset (Rect.unit (s := S512x256) off S512x256.size inb).shape.Idx) = Finset.univ ∨ ∀ a, (Rect.unit (s := S512x256) off S512x256.size inb).stride a = 1}
    {α : Type} {Q : α → sProp 𝕄} {k : PUnit → Prog (TpuEff nD τ sig (Elt F) Λ₀ .tc) α} :
    some' (F := F) c nearM
      ⊢ iprop((owns (c : Thread nD τ) nearM fullShare w -∗ WP c (k ⟨⟩) Q)
          -∗ WP c (.op (.store nearM (Rect.unit (s := S512x256) off S512x256.size inb) w Finset.univ hx hm) k) Q) := by
  subst ho
  refine (some_cells c nearM).trans ?_
  iintro ⟨%f, H⟩ Hk
  iapply (wp_store 𝒱₀ (c : Thread nD τ) none Set.univ (m := nearM) (r := Rect.unit (s := S512x256) ![0, 0] S512x256.size inb) (Mk := Finset.univ)
    (S := (nearM : Memref sig .tc .vmem S512x256 .f32).view.set) (by rw [View.set_whole]; exact Finset.subset_univ _)) $$ H
  iintro H
  iapply Hk
  have hw := Memref.write_access_unit_zero_univ (Elt F) cc0_scratch3 zero2 inb f w
  have hh := owns_intro (Ix := Unit) (Name := ℕ) (U := UU) (Lvl := ℕ) (c : Thread nD τ) nearM fullShare ((nearM.access (Rect.unit (s := S512x256) ![0, 0] S512x256.size inb)).write (Elt F) f w Finset.univ)
  rw [show nearM.view.read (Elt F) ((nearM.access (Rect.unit (s := S512x256) ![0, 0] S512x256.size inb)).write (Elt F) f w Finset.univ) = w from
    (congrArg (nearM.view.read (Elt F)) hw).trans rfl] at hh
  iapply hh
  iexact H

theorem TOut_take (c : Dev nD) {t : Fin 7 × Fin 2} {j : ℕ} (hj : pA t = j) :
    TOut I c j ⊢ iprop(some' c (outB (peer t.1 c) t.2)
      ∗ (owns (c : Thread nD τ) (outB (peer t.1 c) t.2) fullShare (I.outv c (peer t.1 c) t.2) -∗ TOut I c (j + 1))) := Tbl_take pA _ _ pA_inj hj

/-- What a wait has left can be borrowed. -/
theorem TW_peek (a : Fin 4) (p : Fin 7 × Fin 2 → ℕ) (c : Dev nD) {t : Fin 7 × Fin 2} {j : ℕ} (hj : p t < j) :
    TW I a p c j ⊢ iprop(WPost I a c t ∗ (WPost I a c t -∗ TW I a p c j)) := Tbl_peek p _ _ hj

/-- A load of a landing slot after its wait. -/
theorem st_ldland (c : Dev nD) (t : Fin 7 × Fin 2) {j : ℕ} (hj : pA t < j) {off : Fin 2 → ℕ} (ho : off = sOff t.2 t.1)
    {inb : ∀ a, off a + S128x256.size a ≤ S1792x256.size a}
    {hl : (landM : Memref sig .tc .vmem S1792x256 .bf16).view.LoadsAt (Rect.unit (s := S1792x256) off S128x256.size inb).toLoadRect}
    {α : Type} {Q : α → sProp 𝕄} {k : (S128x256.Idx → Elt F .bf16) → Prog (TpuEff nD τ sig (Elt F) Λ₀ .tc) α} :
    TW I 1 pA c j
      ⊢ iprop((TW I 1 pA c j -∗ WP c (k (I.part (peer t.1 c) c t.2)) Q)
          -∗ WP c (.op (.load landM (Rect.unit (s := S1792x256) off S128x256.size inb).toLoadRect hl) k) Q) := by
  iintro HT Hk
  ihave HT := (TW_peek I 1 pA c hj) $$ HT
  unfold WPost
  icases HT with ⟨⟨Hz, Hp⟩, HT⟩
  ihave Hp := (show chunkPay I 1 c t.2 t.1 ⊢ owns (c : Thread nD τ) (landS t.2 t.1) fullShare (I.part (peer t.1 c) c t.2) from .rfl) $$ Hp
  iapply (st_ldslice c (m := landM) (inb' := sOff_inb t.2 t.1) ho) $$ Hp
  iintro Hp
  iapply Hk
  iapply HT
  isplitl [Hz]; · iexact Hz
  ihave Hp := (show owns (c : Thread nD τ) (landS t.2 t.1) fullShare (I.part (peer t.1 c) c t.2) ⊢ chunkPay I 1 c t.2 t.1 from .rfl) $$ Hp
  iexact Hp

/-- A load of a chunk of the result that came from its owner, after the wait. -/
theorem st_ldres (c : Dev nD) (t : Fin 7 × Fin 2) {j : ℕ} (hj : pA t < j) {off : Fin 2 → ℕ} (ho : off = cOff (peer t.1 c) t.2)
    {inb : ∀ a, off a + S128x256.size a ≤ S2048x256.size a}
    {hl : (resM : Memref sig .tc .vmem S2048x256 .bf16).view.LoadsAt (Rect.unit (s := S2048x256) off S128x256.size inb).toLoadRect}
    {α : Type} {Q : α → sProp 𝕄} {k : (S128x256.Idx → Elt F .bf16) → Prog (TpuEff nD τ sig (Elt F) Λ₀ .tc) α} :
    TW I 3 pA c j
      ⊢ iprop((TW I 3 pA c j -∗ WP c (k (I.resv (peer t.1 c) t.2)) Q)
          -∗ WP c (.op (.load resM (Rect.unit (s := S2048x256) off S128x256.size inb).toLoadRect hl) k) Q) := by
  iintro HT Hk
  ihave HT := (TW_peek I 3 pA c hj) $$ HT
  unfold WPost
  icases HT with ⟨⟨Hz, Hp⟩, HT⟩
  ihave Hp := (show chunkPay I 3 c t.2 t.1 ⊢ owns (c : Thread nD τ) (resC (peer t.1 c) t.2) fullShare (I.resv (peer t.1 c) t.2 : Vec F S128x256 .bf16) from .rfl) $$ Hp
  iapply (st_ldslice c (m := resM) (inb' := cOff_inb (peer t.1 c) t.2) ho) $$ Hp
  iintro Hp
  iapply Hk
  iapply HT
  isplitl [Hz]; · iexact Hz
  ihave Hp := (show owns (c : Thread nD τ) (resC (peer t.1 c) t.2) fullShare (I.resv (peer t.1 c) t.2 : Vec F S128x256 .bf16) ⊢ chunkPay I 3 c t.2 t.1 from .rfl) $$ Hp
  iexact Hp

/-- The load of a block of the result before it is written. -/
theorem st_ldout (c : Dev nD) (t : Fin 7 × Fin 2) {j : ℕ} (hj : pA t = j) {off : Fin 3 → ℕ} (ho : off = oOff (peer t.1 c) t.2)
    {inb : ∀ a, off a + S1x128x256.size a ≤ S4x512x256.size a}
    {hl : (oM : Memref sig .tc .vmem S4x512x256 .f32).view.LoadsAt (Rect.unit (s := S4x512x256) off S1x128x256.size inb).toLoadRect}
    {α : Type} {Q : α → sProp 𝕄} {k : (S1x128x256.Idx → Elt F .f32) → Prog (TpuEff nD τ sig (Elt F) Λ₀ .tc) α} :
    TOut I c j
      ⊢ iprop((∀ v, TOut I c j -∗ WP c (k v) Q)
          -∗ WP c (.op (.load oM (Rect.unit (s := S4x512x256) off S1x128x256.size inb).toLoadRect hl) k) Q) := by
  iintro HT Hk
  ihave HT := (show TOut I c j ⊢ iprop(some' c (outB (peer t.1 c) t.2) ∗ (some' c (outB (peer t.1 c) t.2) -∗ TOut I c j)) from by
    unfold TOut Tbl
    rw [bigSep_univ_at _ t, if_neg (by omega)]
    iintro ⟨H1, H2⟩
    isplitl [H1]; · iexact H1
    iintro H1
    isplitl [H1]; · iexact H1
    iexact H2) $$ HT
  icases HT with ⟨⟨%X, Hp⟩, HT⟩
  iapply (st_ldslice c (m := oM) (inb' := oOff_inb (peer t.1 c) t.2) ho) $$ Hp
  iintro Hp
  ihave Hk := Hk $$ %X
  iapply Hk
  iapply HT
  iexists X; iexact Hp

/-- The store of a block of the result that belongs to a peer. -/
theorem st_stout (c : Dev nD) (t : Fin 7 × Fin 2) {j : ℕ} (hj : pA t = j) {off : Fin 3 → ℕ} (ho : off = oOff (peer t.1 c) t.2)
    {w : S1x128x256.Idx → Elt F .f32} (hw : w = k0_pay28 (I.resv (peer t.1 c) t.2))
    {inb : ∀ a, off a + S1x128x256.size a ≤ S4x512x256.size a}
    {hx : ((oM : Memref sig .tc .vmem S4x512x256 .f32).access (Rect.unit (s := S4x512x256) off S1x128x256.size inb)).Stores Finset.univ}
    {hm : (Finset.univ : Finset (Rect.unit (s := S4x512x256) off S1x128x256.size inb).shape.Idx) = Finset.univ ∨ ∀ a, (Rect.unit (s := S4x512x256) off S1x128x256.size inb).stride a = 1}
    {α : Type} {Q : α → sProp 𝕄} {k : PUnit → Prog (TpuEff nD τ sig (Elt F) Λ₀ .tc) α} :
    TOut I c j
      ⊢ iprop((TOut I c (j + 1) -∗ WP c (k ⟨⟩) Q)
          -∗ WP c (.op (.store oM (Rect.unit (s := S4x512x256) off S1x128x256.size inb) w Finset.univ hx hm) k) Q) := by
  have hw' : w = I.outv c (peer t.1 c) t.2 := by unfold Ins.outv; rw [if_neg (peer_ne t.1 c)]; exact hw
  iintro HT Hk
  ihave HT := (TOut_take I c hj) $$ HT
  icases HT with ⟨Hp, HT⟩
  ihave Hp := (show some' (F := F) c (outB (peer t.1 c) t.2) ⊢ some' c (oM.slice (Rect.unit (oOff (peer t.1 c) t.2) S1x128x256.size (oOff_inb (peer t.1 c) t.2)) (fun _ => rfl)) from .rfl) $$ Hp
  iapply (st_stslice c (m := oM) (w := w) (inb' := oOff_inb (peer t.1 c) t.2) ho) $$ Hp
  iintro Hp
  iapply Hk
  iapply HT
  rw [← hw']; iexact Hp

end Cert.Scatter
-- ==== Proof.Run1.lean ====
/-
# The program, first part: partial products and the first exchange

The kernel text is cut into numbered pieces. For each piece: what the device holds before it, what it holds after it, and
what the piece returns.
-/
module

public import proofs.«01_k».proof.Proof.Tiles

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ)

/-- A piece of the kernel on the buffers it is run on. -/
abbrev onBufs {β : Type 1}
    (p : (arg0 : Memref sig .tc .vmem S4x512x256 .f32) → arg0.IsWhole → (arg1 : Memref sig .tc .vmem S4x256 .f32) → arg1.IsWhole
      → (arg2 : Memref sig .tc .vmem S256x256 .f32) → arg2.IsWhole → (arg3 : Memref sig .tc .vmem S4x512x256 .f32) → arg3.IsWhole
      → (arg4 : Memref sig .tc .vmem S2048x256 .bf16) → arg4.IsWhole → (arg5 : Memref sig .tc .vmem S1792x256 .bf16) → arg5.IsWhole
      → (arg6 : Memref sig .tc .vmem S2048x256 .bf16) → arg6.IsWhole → (arg7 : Memref sig .tc .vmem S512x256 .f32) → arg7.IsWhole
      → DmaSems sig S14 → DmaSems sig S14 → DmaSems sig S14 → DmaSems sig S14 → β) : β :=
  p xM (Memref.isWhole_whole _) kM (Memref.isWhole_whole _) wM (Memref.isWhole_whole _) oM (Memref.isWhole_whole _)
    sendM (Memref.isWhole_whole _) landM (Memref.isWhole_whole _) resM (Memref.isWhole_whole _) nearM (Memref.isWhole_whole _)
    (semArr 0) (semArr 1) (semArr 2) (semArr 3)

/-- A rule with its resources one at a time. -/
theorem cur2 {A B R : sProp (MT nD τ sig Unit (Elt F) ℕ UU ℕ)} (h : iprop(A ∗ B) ⊢ R) : A ⊢ iprop(B -∗ R) := BI.wand_intro h
theorem cur3 {A B C R : sProp (MT nD τ sig Unit (Elt F) ℕ UU ℕ)} (h : iprop(A ∗ B ∗ C) ⊢ R) : A ⊢ iprop(B -∗ C -∗ R) :=
  BI.wand_intro (BI.wand_intro (BI.sep_assoc.trans h))
theorem cur4 {A B C D R : sProp (MT nD τ sig Unit (Elt F) ℕ UU ℕ)} (h : iprop(A ∗ B ∗ C ∗ D) ⊢ R) : A ⊢ iprop(B -∗ C -∗ D -∗ R) := by
  iintro HA HB HC HD
  iapply h
  isplitl [HA]; · iexact HA
  isplitl [HB]; · iexact HB
  isplitl [HC]; · iexact HC
  iexact HD

/-- The end of a piece. -/
theorem st_ret (c : Dev nD) {α : Type} {a : α} {Q : α → sProp (MT nD τ sig Unit (Elt F) ℕ UU ℕ)} : Q a ⊢ WP c (.ret a) Q := fupd_intro

/-- The inputs as the device holds them. -/
def Held (c : Dev nD) : sProp 𝕄 :=
  iprop(owns (c : Thread nD τ) xM fullShare (I.x c) ∗ owns (c : Thread nD τ) kM fullShare (I.k c) ∗ owns (c : Thread nD τ) wM fullShare (I.w c))

theorem st_ldx (c d : Dev nD) {off : Fin 3 → ℕ} (ho : off = ![bat d, 0, 0]) {inb : ∀ a, off a + S1x512x256.size a ≤ S4x512x256.size a}
    {hl : (xM : Memref sig .tc .vmem S4x512x256 .f32).view.LoadsAt (Rect.unit (s := S4x512x256) off S1x512x256.size inb).toLoadRect}
    {α : Type} {Q : α → sProp 𝕄} {k : (S1x512x256.Idx → Elt F .f32) → Prog (TpuEff nD τ sig (Elt F) Λ₀ .tc) α} :
    Held I c ⊢ iprop((Held I c -∗ WP c (k (I.xv c d)) Q)
          -∗ WP c (.op (.load xM (Rect.unit (s := S4x512x256) off S1x512x256.size inb).toLoadRect hl) k) Q) := by
  unfold Held
  iintro ⟨Hx, Hr⟩ Hk
  iapply (st_load c (m := xM) (off' := ![bat d, 0, 0]) (inb' := by subst ho; exact inb) ho) $$ Hx
  iintro Hx
  iapply Hk
  isplitl [Hx]; · iexact Hx
  iexact Hr

theorem st_ldk (c : Dev nD) (t : Fin 4) {off : Fin 2 → ℕ} (ho : off = ![t.val, 0]) {inb : ∀ a, off a + S1x256.size a ≤ S4x256.size a}
    {hl : (kM : Memref sig .tc .vmem S4x256 .f32).view.LoadsAt (Rect.unit (s := S4x256) off S1x256.size inb).toLoadRect}
    {α : Type} {Q : α → sProp 𝕄} {k : (S1x256.Idx → Elt F .f32) → Prog (TpuEff nD τ sig (Elt F) Λ₀ .tc) α} :
    Held I c ⊢ iprop((Held I c -∗ WP c (k (I.kv c t)) Q)
          -∗ WP c (.op (.load kM (Rect.unit (s := S4x256) off S1x256.size inb).toLoadRect hl) k) Q) := by
  unfold Held
  iintro ⟨Hx, Hk', Hr⟩ Hk
  iapply (st_load c (m := kM) (off' := ![t.val, 0]) (inb' := by subst ho; exact inb) ho) $$ Hk'
  iintro Hk'
  iapply Hk
  isplitl [Hx]; · iexact Hx
  isplitl [Hk']; · iexact Hk'
  iexact Hr

theorem st_ldw (c : Dev nD) {off : Fin 2 → ℕ} (ho : off = ![0, 0]) {inb : ∀ a, off a + S256x256.size a ≤ S256x256.size a}
    {hl : (wM : Memref sig .tc .vmem S256x256 .f32).view.LoadsAt (Rect.unit (s := S256x256) off S256x256.size inb).toLoadRect}
    {α : Type} {Q : α → sProp 𝕄} {k : (S256x256.Idx → Elt F .f32) → Prog (TpuEff nD τ sig (Elt F) Λ₀ .tc) α} :
    Held I c ⊢ iprop((Held I c -∗ WP c (k (I.wv c)) Q)
          -∗ WP c (.op (.load wM (Rect.unit (s := S256x256) off S256x256.size inb).toLoadRect hl) k) Q) := by
  unfold Held
  iintro ⟨Hx, Hk', Hr⟩ Hk
  iapply (st_load c (m := wM) (off' := ![0, 0]) (inb' := by subst ho; exact inb) ho) $$ Hr
  iintro Hr
  iapply Hk
  isplitl [Hx]; · iexact Hx
  isplitl [Hk']; · iexact Hk'
  iexact Hr

/-- A send of the first exchange, with the chunk it takes. -/
abbrev Ck (c : Dev nD) (r : Fin 7) (h : Fin 2) : sProp 𝕄 := owns (c : Thread nD τ) (sendC (peer r c) h) fullShare (I.part c (peer r c) h)

theorem partC_split (c : Dev nD) (r : Fin 7) : partC I c (peer r c) ⊢ iprop(Ck I c r 0 ∗ Ck I c r 1) := by
  unfold partC; rw [bigSep_fin_two]; exact .rfl

theorem send_eq (c : Dev nD) (r : Fin 7) (h : Fin 2) {off : Fin 2 → ℕ} (ho : off = cOff (peer r c) h) (inb : ∀ a, off a + S128x256.size a ≤ S2048x256.size a) :
    sendM.slice (Rect.unit (s := S2048x256) off S128x256.size inb) (fun _ => rfl) = sendC (peer r c) h := by subst ho; rfl

theorem res_eq (d : Dev nD) (h : Fin 2) {off : Fin 2 → ℕ} (ho : off = cOff d h) (inb : ∀ a, off a + S128x256.size a ≤ S2048x256.size a) :
    resM.slice (Rect.unit (s := S2048x256) off S128x256.size inb) (fun _ => rfl) = resC d h := by subst ho; rfl

theorem peer_ne_peer (c : Dev nD) {r r' : Fin 7} (h : r ≠ r') : peer r c ≠ peer r' c := fun h' => h (peer_inj c _ _ h')

/-- The tokens of all sends of the two exchanges. -/
def TokRs (c : Dev nD) : sProp 𝕄 := bigSep Finset.univ fun t : Fin 7 × Fin 2 => toks2 0 1 c t
def TokAg (c : Dev nD) : sProp 𝕄 := bigSep Finset.univ fun t : Fin 7 × Fin 2 => toks2 2 3 c t

/-- The room that the peers gave makes both exchanges ready to start. -/
theorem rooms (c : Dev nD) :
    iprop((bigSep Finset.univ fun r => room (F := F) (peer r c) r) ∗ TokRs (F := F) c ∗ TokAg (F := F) c) ⊢ iprop(TRs c 0 ∗ TAg c 0) := by
  have h : (bigSep Finset.univ fun r => room (F := F) (peer r c) r)
      = iprop((bigSep Finset.univ fun t : Fin 7 × Fin 2 => some' (F := F) (peer t.1 c) (landS t.2 t.1))
        ∗ bigSep Finset.univ fun t : Fin 7 × Fin 2 => some' (F := F) (peer t.1 c) (resC c t.2)) := by
    rw [bigSep_univ_prod, bigSep_univ_prod, ← bigSep_sep']
    refine bigSep_congr fun r _ => ?_
    unfold room
    rw [peer_peer]
  rw [h]
  unfold TokRs TokAg
  iintro ⟨⟨H1, H2⟩, Hr, Ha⟩
  isplitl [H1 Hr]
  · unfold TRs; iapply (Tbl_start pS (fun t => iprop(toks2 (F := F) 0 1 c t ∗ some' (peer t.1 c) (landS t.2 t.1))) (WPre 0 c))
    rw [bigSep_sep']
    isplitl [Hr]; · iexact Hr
    iexact H1
  · unfold TAg; iapply (Tbl_start pA (fun t => iprop(toks2 (F := F) 2 3 c t ∗ some' (peer t.1 c) (resC c t.2))) (WPre 2 c))
    rw [bigSep_sep']
    isplitl [Ha]; · iexact Ha
    iexact H2

/-! ## The signals -/

theorem p1 (c : Dev nD) : (emp : sProp 𝕄) ⊢ WP c (onBufs (k0_part1 (F := F))) fun r => iprop(⌜r.1 = c⌝) := by
  rw [k0_part1_eq_skeleton]
  unfold onBufs k0_part1_skel
  simp only [Prog.lift, Prog.bind_op, Prog.bind_ret, Prog.pure_eq_ret, wp_deviceId]
  iintro -
  iapply (st_ret c)
  ipureintro; rfl

theorem p2 (c : Dev nD) (v20 v24 v26 v29 v35 v36 : BitVec 32) : (emp : sProp 𝕄) ⊢ WP c (onBufs (k0_part2 (F := F)) v20 v24 v26 v29 v35 v36) fun _ => iprop(emp) := by
  rw [k0_part2_eq_skeleton]
  unfold onBufs k0_part2_skel
  simp only [Prog.pure_eq_ret]
  exact st_ret c
theorem p3 (c : Dev nD) (v20 v24 v26 v66 v67 v68 w : BitVec 32) : (emp : sProp 𝕄) ⊢ WP c (onBufs (k0_part3 (F := F)) v20 v24 v26 v66 v67 v68 w) fun _ => iprop(emp) := by
  rw [k0_part3_eq_skeleton]
  unfold onBufs k0_part3_skel
  simp only [Prog.pure_eq_ret]
  exact st_ret c

theorem p4 (c : Dev nD) (v20 v24 v26 v34 v47 v60 v73 v86 v99 v105 v106 v107 v110 : BitVec 32) :
    iprop(Env I K ∗ Debt c 0 0 0 ∗ TSig c 0)
      ⊢ WP c (onBufs (k0_part4 (F := F)) c v20 v24 v26 v34 v47 v60 v73 v86 v99 v105 v106 v107 v110)
          fun r => iprop(⌜r.2.2.2 = SemArray.scalar (sig.barrier 0 rfl)⌝ ∗ Debt c 6 0 0 ∗ TSig c 6) := by
  rw [k0_part4_eq_skeleton]
  unfold onBufs k0_part4_skel
  simp only [semSignalWord, Prog.lift, Prog.bind_op, Prog.bind_ret, Prog.pure_eq_ret]
  iintro ⟨#HE, HO, HT⟩
  iapply (cur3 (st_signal I K c _ (a := 0) 0 rfl (dev1_eq c) rfl)) $$ HE HO HT
  iintro ⟨HO, HT⟩
  iapply (cur3 (st_signal I K c _ (a := 1) 1 rfl (dev2_eq c) rfl)) $$ HE HO HT
  iintro ⟨HO, HT⟩
  iapply (cur3 (st_signal I K c _ (a := 2) 2 rfl (dev3_eq c) rfl)) $$ HE HO HT
  iintro ⟨HO, HT⟩
  iapply (cur3 (st_signal I K c _ (a := 3) 3 rfl (dev4_eq c) rfl)) $$ HE HO HT
  iintro ⟨HO, HT⟩
  iapply (cur3 (st_signal I K c _ (a := 4) 4 rfl (dev5_eq c) rfl)) $$ HE HO HT
  iintro ⟨HO, HT⟩
  iapply (cur3 (st_signal I K c _ (a := 5) 5 rfl (dev6_eq c) rfl)) $$ HE HO HT
  iintro ⟨HO, HT⟩
  iapply (st_ret c)
  isplitr; · ipureintro; rfl
  isplitl [HO]; · iexact HO
  iexact HT

theorem p5 (c : Dev nD) (v24 v26 : BitVec 32) :
    iprop(Env I K ∗ Debt c 6 0 0 ∗ TSig c 6 ∗ Held I c)
      ⊢ WP c (onBufs (k0_part5 (F := F)) c v24 v26 (SemArray.scalar (sig.barrier 0 rfl)))
          fun r => iprop(⌜∃ v, r = ⟨k0_pay1 (I.wv c), v, k0_pay3 (I.xv c (peer 0 c)) (I.kv c 3) (I.kv c 2) (I.kv c 1), k0_pay4 (I.xv c (peer 0 c)) (I.kv c 0)⟩⌝
            ∗ Debt c 7 0 0 ∗ TSig c 7 ∗ Held I c) := by
  rw [k0_part5_eq_skeleton]
  unfold onBufs k0_part5_skel
  simp only [semSignalWord, Prog.lift, Prog.bind_op, Prog.bind_ret, Prog.pure_eq_ret]
  iintro ⟨#HE, HO, HT, HH⟩
  iapply (cur3 (st_signal I K c _ (a := 6) 6 rfl (dev7_eq c) rfl)) $$ HE HO HT
  iintro ⟨HO, HT⟩
  iapply (st_ldw I c rfl) $$ HH
  iintro HH
  iapply (st_ldx I c (peer 0 c) (off1_eq c).1) $$ HH
  iintro HH
  iapply (st_ldk I c 3 rfl) $$ HH
  iintro HH
  iapply (st_ldk I c 2 rfl) $$ HH
  iintro HH
  iapply (st_ldk I c 1 rfl) $$ HH
  iintro HH
  iapply (st_ldk I c 0 rfl) $$ HH
  iintro HH
  iapply (st_ret c)
  isplitr; · ipureintro; exact ⟨_, rfl⟩
  isplitl [HO]; · iexact HO
  isplitl [HT]; · iexact HT
  iexact HH

/-! ## The partial products and their copies -/

theorem p6 (c : Dev nD) (v34 v39 v52 v144 : BitVec 32) :
    iprop(Env I K ∗ Debt c 7 0 0 ∗ (cred (tallyAt (barCell c) () 7) ∗ at0 (barCell c)) ∗ (TokRs c ∗ TokAg c) ∗ anyC c (peer 0 c) ∗ anyC c (peer 1 c))
      ⊢ WP c (onBufs (k0_part6 (F := F)) c v34 v39 v52 (SemArray.scalar (sig.barrier 0 rfl)) (k0_pay1 (I.wv c)) v144
            (k0_pay3 (I.xv c (peer 0 c)) (I.kv c 3) (I.kv c 2) (I.kv c 1)) (k0_pay4 (I.xv c (peer 0 c)) (I.kv c 0)))
          fun _ => iprop(Debt c 7 2 0 ∗ semVal (barCell c) 0 ∗ TRs c 2 ∗ TAg c 0 ∗ Ck I c 1 0 ∗ Ck I c 1 1) := by
  rw [k0_part6_eq_skeleton]
  unfold onBufs k0_part6_skel
  simp only [semWaitWord, Prog.lift, Prog.bind_op, Prog.bind_ret, Prog.pure_eq_ret]
  iintro ⟨#HE, HO, ⟨Hc, Ha⟩, ⟨Hr, Hg⟩, HC⟩
  iapply (cur4 (st_barrier I K c rfl)) $$ HE HO Hc Ha
  iintro ⟨HO, Hz, Hroom⟩
  ihave HT := (rooms c) $$ [Hroom Hr Hg]
  · isplitl [Hroom]; · iexact Hroom
    isplitl [Hr]; · iexact Hr
    iexact Hg
  icases HT with ⟨HT, HG⟩
  iapply (st_ldbatch c (peer 0 c) (peer 1 c) (peer_ne_peer c (by decide)) (bat_pair c).1.symm (off2_eq c).1) $$ HC
  iintro %v HC
  iapply (st_stbatch I c (peer 0 c) (peer 1 c) (peer_ne_peer c (by decide)) (bat_pair c).1.symm (off2_eq c).1 rfl) $$ HC
  iintro ⟨HC, HD⟩
  ihave HC := (partC_split I c 0) $$ HC
  icases HC with ⟨HC0, HC1⟩
  ihave HD := (partC_split I c 1) $$ HD
  icases HD with ⟨HD0, HD1⟩
  iapply (cur4 (st_rs I K c _ (0, 0) (b := 0) rfl (dev8_eq c) (send_eq c 0 0 (off3_eq c 0 0) _) rfl rfl rfl)) $$ HE HO HT HC0
  iintro ⟨HO, HT⟩
  iapply (cur4 (st_rs I K c _ (0, 1) (b := 1) rfl (dev9_eq c) (send_eq c 0 1 (off3_eq c 0 1) _) rfl rfl rfl)) $$ HE HO HT HC1
  iintro ⟨HO, HT⟩
  iapply (st_ret c)
  isplitl [HO]; · iexact HO
  isplitl [Hz]; · iexact Hz
  isplitl [HT]; · iexact HT
  isplitl [HG]; · iexact HG
  isplitl [HD0]; · iexact HD0
  iexact HD1

theorem p7 (c : Dev nD) (v24 v26 v47 v52 w : BitVec 32) :
    iprop(Env I K ∗ Debt c 7 2 0 ∗ TRs c 2 ∗ Ck I c 1 0 ∗ Ck I c 1 1 ∗ Held I c)
      ⊢ WP c (onBufs (k0_part7 (F := F)) c v24 v26 v47 v52 w)
          fun r => iprop(⌜∃ v, r = ⟨v, k0_pay6 (I.xv c (peer 2 c)), k0_pay7 (I.xv c (peer 2 c)) (I.kv c 3), k0_pay8 (I.xv c (peer 2 c)), k0_pay9 (I.kv c 2)⟩⌝
            ∗ Debt c 7 4 0 ∗ TRs c 4 ∗ Held I c) := by
  rw [k0_part7_eq_skeleton]
  unfold onBufs k0_part7_skel
  simp only [Prog.lift, Prog.bind_op, Prog.bind_ret, Prog.pure_eq_ret]
  iintro ⟨#HE, HO, HT, HC0, HC1, HH⟩
  iapply (cur4 (st_rs I K c _ (1, 0) (b := 2) rfl (dev10_eq c) (send_eq c 1 0 (off3_eq c 1 0) _) rfl rfl rfl)) $$ HE HO HT HC0
  iintro ⟨HO, HT⟩
  iapply (cur4 (st_rs I K c _ (1, 1) (b := 3) rfl (dev11_eq c) (send_eq c 1 1 (off3_eq c 1 1) _) rfl rfl rfl)) $$ HE HO HT HC1
  iintro ⟨HO, HT⟩
  iapply (st_ldx I c (peer 2 c) (off1_eq c).2.1) $$ HH
  iintro HH
  iapply (st_ldk I c 3 rfl) $$ HH
  iintro HH
  iapply (st_ldk I c 2 rfl) $$ HH
  iintro HH
  iapply (st_ret c)
  isplitr; · ipureintro; exact ⟨_, rfl⟩
  isplitl [HO]; · iexact HO
  isplitl [HT]; · iexact HT
  iexact HH

theorem p8 (c : Dev nD) (v60 v65 v230 : BitVec 32) :
    iprop(Env I K ∗ Debt c 7 4 0 ∗ TRs c 4 ∗ (anyC c (peer 2 c) ∗ anyC c (peer 3 c)) ∗ Held I c)
      ⊢ WP c (onBufs (k0_part8 (F := F)) c v60 v65 (k0_pay1 (I.wv c)) v230 (k0_pay6 (I.xv c (peer 2 c))) (k0_pay7 (I.xv c (peer 2 c)) (I.kv c 3))
            (k0_pay8 (I.xv c (peer 2 c))) (k0_pay9 (I.kv c 2)))
          fun _ => iprop(Debt c 7 5 0 ∗ TRs c 5 ∗ (Ck I c 2 1 ∗ Ck I c 3 0 ∗ Ck I c 3 1) ∗ Held I c) := by
  rw [k0_part8_eq_skeleton]
  unfold onBufs k0_part8_skel
  simp only [Prog.lift, Prog.bind_op, Prog.bind_ret, Prog.pure_eq_ret]
  iintro ⟨#HE, HO, HT, HC, HH⟩
  iapply (st_ldk I c 1 rfl) $$ HH
  iintro HH
  iapply (st_ldk I c 0 rfl) $$ HH
  iintro HH
  iapply (st_ldbatch c (peer 2 c) (peer 3 c) (peer_ne_peer c (by decide)) (bat_pair c).2.1.symm (off2_eq c).2.1) $$ HC
  iintro %v HC
  iapply (st_stbatch I c (peer 2 c) (peer 3 c) (peer_ne_peer c (by decide)) (bat_pair c).2.1.symm (off2_eq c).2.1 rfl) $$ HC
  iintro ⟨HC, HD⟩
  ihave HC := (partC_split I c 2) $$ HC
  icases HC with ⟨HC0, HC1⟩
  ihave HD := (partC_split I c 3) $$ HD
  iapply (cur4 (st_rs I K c _ (2, 0) (b := 4) rfl (dev12_eq c) (send_eq c 2 0 (off3_eq c 2 0) _) rfl rfl rfl)) $$ HE HO HT HC0
  iintro ⟨HO, HT⟩
  iapply (st_ret c)
  isplitl [HO]; · iexact HO
  isplitl [HT]; · iexact HT
  isplitl [HC1 HD]
  · isplitl [HC1]; · iexact HC1
    iexact HD
  iexact HH

theorem p9 (c : Dev nD) (v24 v26 v60 v65 v73 v78 w : BitVec 32) :
    iprop(Env I K ∗ Debt c 7 5 0 ∗ TRs c 5 ∗ Ck I c 2 1 ∗ Ck I c 3 0 ∗ Ck I c 3 1)
      ⊢ WP c (onBufs (k0_part9 (F := F)) c v24 v26 v60 v65 v73 v78 w) fun _ => iprop(Debt c 7 8 0 ∗ TRs c 8) := by
  rw [k0_part9_eq_skeleton]
  unfold onBufs k0_part9_skel
  simp only [Prog.lift, Prog.bind_op, Prog.bind_ret, Prog.pure_eq_ret]
  iintro ⟨#HE, HO, HT, HC1, HD0, HD1⟩
  iapply (cur4 (st_rs I K c _ (2, 1) (b := 5) rfl (dev13_eq c) (send_eq c 2 1 (off3_eq c 2 1) _) rfl rfl rfl)) $$ HE HO HT HC1
  iintro ⟨HO, HT⟩
  iapply (cur4 (st_rs I K c _ (3, 0) (b := 6) rfl (dev14_eq c) (send_eq c 3 0 (off3_eq c 3 0) _) rfl rfl rfl)) $$ HE HO HT HD0
  iintro ⟨HO, HT⟩
  iapply (cur4 (st_rs I K c _ (3, 1) (b := 7) rfl (dev15_eq c) (send_eq c 3 1 (off3_eq c 3 1) _) rfl rfl rfl)) $$ HE HO HT HD1
  iintro ⟨HO, HT⟩
  iapply (st_ret c)
  isplitl [HO]; · iexact HO
  iexact HT

theorem p10 (c : Dev nD) (v316 : BitVec 32) :
    iprop((anyC c (peer 4 c) ∗ anyC c (peer 5 c)) ∗ Held I c)
      ⊢ WP c (onBufs (k0_part10 (F := F)) c (k0_pay1 (I.wv c)) v316)
          fun r => iprop(⌜∃ v, r = ⟨k0_pay11 (k0_pay1 (I.wv c)) (I.xv c (peer 4 c)) (I.kv c 3) (I.kv c 2) (I.kv c 1) (I.kv c 0), v⟩⌝
            ∗ (anyC c (peer 4 c) ∗ anyC c (peer 5 c)) ∗ Held I c) := by
  rw [k0_part10_eq_skeleton]
  unfold onBufs k0_part10_skel
  simp only [Prog.lift, Prog.bind_op, Prog.bind_ret, Prog.pure_eq_ret]
  iintro ⟨HC, HH⟩
  iapply (st_ldx I c (peer 4 c) (off1_eq c).2.2.1) $$ HH
  iintro HH
  iapply (st_ldk I c 3 rfl) $$ HH
  iintro HH
  iapply (st_ldk I c 2 rfl) $$ HH
  iintro HH
  iapply (st_ldk I c 1 rfl) $$ HH
  iintro HH
  iapply (st_ldk I c 0 rfl) $$ HH
  iintro HH
  iapply (st_ldbatch c (peer 4 c) (peer 5 c) (peer_ne_peer c (by decide)) (bat_pair c).2.2.1.symm (off2_eq c).2.2.1) $$ HC
  iintro %v HC
  iapply (st_ret c)
  isplitr; · ipureintro; exact ⟨_, rfl⟩
  isplitl [HC]; · iexact HC
  iexact HH

theorem p11 (c : Dev nD) (v86 v91 v99 v104 : BitVec 32) (v : Vec F S512x256 .bf16) :
    iprop(Env I K ∗ Debt c 7 8 0 ∗ TRs c 8 ∗ anyC c (peer 4 c) ∗ anyC c (peer 5 c))
      ⊢ WP c (onBufs (k0_part11 (F := F)) c v86 v91 v99 v104
            (k0_pay11 (k0_pay1 (I.wv c)) (I.xv c (peer 4 c)) (I.kv c 3) (I.kv c 2) (I.kv c 1) (I.kv c 0)) v)
          fun _ => iprop(Debt c 7 11 0 ∗ TRs c 11 ∗ Ck I c 5 1) := by
  rw [k0_part11_eq_skeleton]
  unfold onBufs k0_part11_skel
  simp only [Prog.lift, Prog.bind_op, Prog.bind_ret, Prog.pure_eq_ret]
  iintro ⟨#HE, HO, HT, HC⟩
  iapply (st_stbatch I c (peer 4 c) (peer 5 c) (peer_ne_peer c (by decide)) (bat_pair c).2.2.1.symm (off2_eq c).2.2.1 rfl) $$ HC
  iintro ⟨HC, HD⟩
  ihave HC := (partC_split I c 4) $$ HC
  icases HC with ⟨HC0, HC1⟩
  ihave HD := (partC_split I c 5) $$ HD
  icases HD with ⟨HD0, HD1⟩
  iapply (cur4 (st_rs I K c _ (4, 0) (b := 8) rfl (dev16_eq c) (send_eq c 4 0 (off3_eq c 4 0) _) rfl rfl rfl)) $$ HE HO HT HC0
  iintro ⟨HO, HT⟩
  iapply (cur4 (st_rs I K c _ (4, 1) (b := 9) rfl (dev17_eq c) (send_eq c 4 1 (off3_eq c 4 1) _) rfl rfl rfl)) $$ HE HO HT HC1
  iintro ⟨HO, HT⟩
  iapply (cur4 (st_rs I K c _ (5, 0) (b := 10) rfl (dev18_eq c) (send_eq c 5 0 (off3_eq c 5 0) _) rfl rfl rfl)) $$ HE HO HT HD0
  iintro ⟨HO, HT⟩
  iapply (st_ret c)
  isplitl [HO]; · iexact HO
  isplitl [HT]; · iexact HT
  iexact HD1

theorem p12 (c : Dev nD) (v24 v26 v99 : BitVec 32) :
    iprop(Env I K ∗ Debt c 7 11 0 ∗ TRs c 11 ∗ Ck I c 5 1 ∗ Held I c)
      ⊢ WP c (onBufs (k0_part12 (F := F)) c v24 v26 v99)
          fun r => iprop(⌜∃ v, r = ⟨v, k0_pay13 (I.xv c c), k0_pay14 (I.xv c c) (I.kv c 3) (I.kv c 2) (I.kv c 1)⟩⌝
            ∗ Debt c 7 12 0 ∗ TRs c 12 ∗ Held I c) := by
  rw [k0_part12_eq_skeleton]
  unfold onBufs k0_part12_skel
  simp only [Prog.lift, Prog.bind_op, Prog.bind_ret, Prog.pure_eq_ret]
  iintro ⟨#HE, HO, HT, HD1, HH⟩
  iapply (cur4 (st_rs I K c _ (5, 1) (b := 11) rfl (dev19_eq c) (send_eq c 5 1 (off3_eq c 5 1) _) rfl rfl rfl)) $$ HE HO HT HD1
  iintro ⟨HO, HT⟩
  iapply (st_ldx I c c (off1_eq c).2.2.2) $$ HH
  iintro HH
  iapply (st_ldk I c 3 rfl) $$ HH
  iintro HH
  iapply (st_ldk I c 2 rfl) $$ HH
  iintro HH
  iapply (st_ldk I c 1 rfl) $$ HH
  iintro HH
  iapply (st_ret c)
  isplitr; · ipureintro; exact ⟨_, rfl⟩
  isplitl [HO]; · iexact HO
  isplitl [HT]; · iexact HT
  iexact HH

theorem p13 (c : Dev nD) (v112 v117 v402 : BitVec 32) :
    iprop(Env I K ∗ Debt c 7 12 0 ∗ TRs c 12 ∗ some' c nearM ∗ (anyC c c ∗ anyC c (peer 6 c)) ∗ Held I c)
      ⊢ WP c (onBufs (k0_part13 (F := F)) c v112 v117 (k0_pay1 (I.wv c)) v402 (k0_pay13 (I.xv c c)) (k0_pay14 (I.xv c c) (I.kv c 3) (I.kv c 2) (I.kv c 1)))
          fun _ => iprop(Debt c 7 13 0 ∗ TRs c 13 ∗ owns (c : Thread nD τ) nearM fullShare (I.nearS c c) ∗ partC I c c ∗ Ck I c 6 1 ∗ Held I c) := by
  rw [k0_part13_eq_skeleton]
  unfold onBufs k0_part13_skel
  simp only [Prog.lift, Prog.bind_op, Prog.bind_ret, Prog.pure_eq_ret]
  iintro ⟨#HE, HO, HT, ⟨%X, HN⟩, HC, HH⟩
  iapply (st_ldk I c 0 rfl) $$ HH
  iintro HH
  iapply (st_load c (m := nearM) (off' := ![0, 0]) (inb' := inb_S512x256_S512x256_0_0) rfl) $$ HN
  iintro HN
  ihave HN := (some_intro c nearM X) $$ HN
  iapply (st_stnear c rfl) $$ HN
  iintro HN
  iapply (st_ldbatch c c (peer 6 c) (peer_ne 6 c).symm (bat_pair c).2.2.2.symm (off2_eq c).2.2.2) $$ HC
  iintro %v HC
  iapply (st_stbatch I c c (peer 6 c) (peer_ne 6 c).symm (bat_pair c).2.2.2.symm (off2_eq c).2.2.2 rfl) $$ HC
  iintro ⟨HC, HD⟩
  ihave HD := (partC_split I c 6) $$ HD
  icases HD with ⟨HD0, HD1⟩
  iapply (cur4 (st_rs I K c _ (6, 0) (b := 12) rfl (dev20_eq c) (send_eq c 6 0 (off3_eq c 6 0) _) rfl rfl rfl)) $$ HE HO HT HD0
  iintro ⟨HO, HT⟩
  iapply (st_ret c)
  isplitl [HO]; · iexact HO
  isplitl [HT]; · iexact HT
  isplitl [HN]; · iexact HN
  isplitl [HC]; · iexact HC
  isplitl [HD1]; · iexact HD1
  iexact HH

end Cert.Scatter
-- ==== Proof.Run2.lean ====
/-
# The program, second part: the reduction and the second exchange

The pieces that add up what the peers sent, store the device's own chunk of the result, and send it to all peers.
-/
module

public import proofs.«01_k».proof.Proof.Run1

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ)

/-- Every copy of this program moves a chunk of the same size. -/
theorem N_any (m : Memref sig .tc .vmem S128x256 .bf16) : m.view.dmaCredit = N := rfl

/-- A wait for a peer's partial product, and its load. -/
theorem st_take (c : Dev nD) (t : Fin 7 × Fin 2) (j : ℕ) {e : ℕ} (hj : pA t = j) {s : DmaSem sig} (hs : s = dsem 1 t.2 t.1)
    {src dst : Memref sig .tc .vmem S128x256 .bf16}
    {hsrc : src.view.WordExact} {hdst : dst.view.WordExact}
    {off : Fin 2 → ℕ} (ho : off = sOff t.2 t.1) {inb : ∀ a, off a + S128x256.size a ≤ S1792x256.size a}
    {hl : (landM : Memref sig .tc .vmem S1792x256 .bf16).view.LoadsAt (Rect.unit (s := S1792x256) off S128x256.size inb).toLoadRect}
    {α : Type} {Q : α → sProp 𝕄} {k : (S128x256.Idx → Elt F .bf16) → Prog (TpuEff nD τ sig (Elt F) Λ₀ .tc) α} :
    iprop(Env I K ∗ Debt c 7 14 e ∗ TW I 1 pA c j)
      ⊢ iprop(((Debt c 7 14 e ∗ TW I 1 pA c (j + 1)) -∗ WP c (k (I.part (peer t.1 c) c t.2)) Q)
          -∗ WP c (.op (.waitDma2 s src dst hsrc hdst) fun _ => .op (.load landM (Rect.unit (s := S1792x256) off S128x256.size inb).toLoadRect hl) k) Q) := by
  iintro ⟨#HE, HO, HT⟩ Hk
  iapply (cur3 (st_wait I K 1 pA pA_inj c t hj (.inl rfl) hs (N_any dst))) $$ HE HO HT
  iintro ⟨HO, HT⟩
  iapply (st_ldland I c t (j := j + 1) (by omega) ho) $$ HT
  iintro HT
  iapply Hk
  isplitl [HO]; · iexact HO
  iexact HT

/-- The load of the kept half of the device's own partial product. -/
theorem st_ldmine (c : Dev nD) (h : Fin 2) {off : Fin 2 → ℕ} (ho : off = ![lrow c + 128 * h.val, 0]) {inb : ∀ a, off a + S128x256.size a ≤ S512x256.size a}
    {hl : (nearM : Memref sig .tc .vmem S512x256 .f32).view.LoadsAt (Rect.unit (s := S512x256) off S128x256.size inb).toLoadRect}
    {α : Type} {Q : α → sProp 𝕄} {k : (S128x256.Idx → Elt F .f32) → Prog (TpuEff nD τ sig (Elt F) Λ₀ .tc) α} :
    (owns (c : Thread nD τ) nearM fullShare (I.nearS c c) : sProp 𝕄)
      ⊢ iprop((owns (c : Thread nD τ) nearM fullShare (I.nearS c c) -∗ WP c (k (I.mine c h)) Q)
          -∗ WP c (.op (.load nearM (Rect.unit (s := S512x256) off S128x256.size inb).toLoadRect hl) k) Q) :=
  st_load c (m := nearM) (off' := ![lrow c + 128 * h.val, 0]) (inb' := by subst ho; exact inb) ho

/-- A load and a store of a chunk of the buffer of results. -/
theorem st_putres (c d : Dev nD) (h : Fin 2) {off off' : Fin 2 → ℕ} (ho : off = cOff d h) (ho' : off' = cOff d h)
    {inb : ∀ a, off a + S128x256.size a ≤ S2048x256.size a} {inb' : ∀ a, off' a + S128x256.size a ≤ S2048x256.size a}
    {hl : (resM : Memref sig .tc .vmem S2048x256 .bf16).view.LoadsAt (Rect.unit (s := S2048x256) off S128x256.size inb).toLoadRect}
    {w : S128x256.Idx → Elt F .bf16}
    {hx : ((resM : Memref sig .tc .vmem S2048x256 .bf16).access (Rect.unit (s := S2048x256) off' S128x256.size inb')).Stores Finset.univ}
    {hm : (Finset.univ : Finset (Rect.unit (s := S2048x256) off' S128x256.size inb').shape.Idx) = Finset.univ ∨ ∀ a, (Rect.unit (s := S2048x256) off' S128x256.size inb').stride a = 1}
    {α : Type} {Q : α → sProp 𝕄} {k : PUnit → Prog (TpuEff nD τ sig (Elt F) Λ₀ .tc) α} :
    some' (F := F) c (resC d h)
      ⊢ iprop((owns (c : Thread nD τ) (resC d h) fullShare w -∗ WP c (k ⟨⟩) Q)
          -∗ WP c (.op (.load resM (Rect.unit (s := S2048x256) off S128x256.size inb).toLoadRect hl)
            fun _ => .op (.store resM (Rect.unit (s := S2048x256) off' S128x256.size inb') w Finset.univ hx hm) k) Q) := by
  iintro ⟨%X, H⟩ Hk
  iapply (st_ldslice c (m := resM) (inb' := cOff_inb d h) ho) $$ H
  iintro H
  ihave H := (show owns (c : Thread nD τ) (resC d h) fullShare X ⊢ some' (F := F) c (resM.slice (Rect.unit (cOff d h) S128x256.size (cOff_inb d h)) (fun _ => rfl)) from some_intro c _ X) $$ H
  iapply (st_stslice c (m := resM) (w := w) (inb' := cOff_inb d h) ho') $$ H
  iintro H
  iapply Hk
  iexact H

/-- A load and a store of a block of the result. -/
theorem st_putout (c d : Dev nD) (h : Fin 2) {off off' : Fin 3 → ℕ} (ho : off = oOff d h) (ho' : off' = oOff d h)
    {inb : ∀ a, off a + S1x128x256.size a ≤ S4x512x256.size a} {inb' : ∀ a, off' a + S1x128x256.size a ≤ S4x512x256.size a}
    {hl : (oM : Memref sig .tc .vmem S4x512x256 .f32).view.LoadsAt (Rect.unit (s := S4x512x256) off S1x128x256.size inb).toLoadRect}
    {w : S1x128x256.Idx → Elt F .f32}
    {hx : ((oM : Memref sig .tc .vmem S4x512x256 .f32).access (Rect.unit (s := S4x512x256) off' S1x128x256.size inb')).Stores Finset.univ}
    {hm : (Finset.univ : Finset (Rect.unit (s := S4x512x256) off' S1x128x256.size inb').shape.Idx) = Finset.univ ∨ ∀ a, (Rect.unit (s := S4x512x256) off' S1x128x256.size inb').stride a = 1}
    {α : Type} {Q : α → sProp 𝕄} {k : PUnit → Prog (TpuEff nD τ sig (Elt F) Λ₀ .tc) α} :
    some' (F := F) c (outB d h)
      ⊢ iprop((owns (c : Thread nD τ) (outB d h) fullShare w -∗ WP c (k ⟨⟩) Q)
          -∗ WP c (.op (.load oM (Rect.unit (s := S4x512x256) off S1x128x256.size inb).toLoadRect hl)
            fun _ => .op (.store oM (Rect.unit (s := S4x512x256) off' S1x128x256.size inb') w Finset.univ hx hm) k) Q) := by
  iintro ⟨%X, H⟩ Hk
  iapply (st_ldslice c (m := oM) (inb' := oOff_inb d h) ho) $$ H
  iintro H
  ihave H := (show owns (c : Thread nD τ) (outB d h) fullShare X ⊢ some' (F := F) c (oM.slice (Rect.unit (oOff d h) S1x128x256.size (oOff_inb d h)) (fun _ => rfl)) from some_intro c _ X) $$ H
  iapply (st_stslice c (m := oM) (w := w) (inb' := oOff_inb d h) ho') $$ H
  iintro H
  iapply Hk
  iexact H

/-- The finished half is shared out for its seven sends. -/
theorem sh_start (c : Dev nD) (h : Fin 2) : (owns (c : Thread nD τ) (resC c h) fullShare (I.resv c h : Vec F S128x256 .bf16) : sProp 𝕄) ⊢ TSh I c h 0 :=
  (owns_shares c (resC c h) (I.resv c h)).1.trans (Tbl_start pR _ _)

/-! ## The first half of the rows -/

theorem p14 (c : Dev nD) (v20 v34 v47 v60 : BitVec 32) :
    iprop(Env I K ∗ Debt c 7 13 0 ∗ TRs c 13 ∗ Ck I c 6 1 ∗ owns (c : Thread nD τ) nearM fullShare (I.nearS c c) ∗ TW I 1 pA c 0)
      ⊢ WP c (onBufs (k0_part14 (F := F)) c v20 v34 v47 v60)
          fun r => iprop(⌜r = k0_pay18 (I.mine c 0) (I.part (peer 0 c) c 0) (I.part (peer 1 c) c 0)⌝
            ∗ Debt c 7 14 0 ∗ TRs c 14 ∗ owns (c : Thread nD τ) nearM fullShare (I.nearS c c) ∗ TW I 1 pA c 2) := by
  rw [k0_part14_eq_skeleton]
  unfold onBufs k0_part14_skel
  simp only [Prog.lift, Prog.bind_op, Prog.bind_ret, Prog.pure_eq_ret]
  iintro ⟨#HE, HO, HR, HC, HN, HT⟩
  iapply (cur4 (st_rs I K c _ (6, 1) (b := 13) rfl (dev21_eq c) (send_eq c 6 1 (off3_eq c 6 1) _) rfl rfl rfl)) $$ HE HO HR HC
  iintro ⟨HO, HR⟩
  iapply (st_ldmine I c 0 (off4_eq c 0)) $$ HN
  iintro HN
  iapply (cur3 (st_take I K c (0, 0) 0 rfl rfl rfl)) $$ HE HO HT
  iintro ⟨HO, HT⟩
  iapply (cur3 (st_take I K c (1, 0) 1 rfl rfl rfl)) $$ HE HO HT
  iintro ⟨HO, HT⟩
  iapply (st_ret c)
  isplitr; · ipureintro; rfl
  isplitl [HO]; · iexact HO
  isplitl [HR]; · iexact HR
  isplitl [HN]; · iexact HN
  iexact HT

theorem p15 (c : Dev nD) (v73 v86 v99 : BitVec 32) (v : FVec F S128x256 .f32) :
    iprop(Env I K ∗ Debt c 7 14 0 ∗ TW I 1 pA c 2)
      ⊢ WP c (onBufs (k0_part15 (F := F)) v73 v86 v99 v)
          fun r => iprop(⌜r = k0_pay19 v (I.part (peer 2 c) c 0) (I.part (peer 3 c) c 0) (I.part (peer 4 c) c 0)⌝ ∗ Debt c 7 14 0 ∗ TW I 1 pA c 5) := by
  rw [k0_part15_eq_skeleton]
  unfold onBufs k0_part15_skel
  simp only [Prog.lift, Prog.bind_op, Prog.bind_ret, Prog.pure_eq_ret]
  iintro ⟨#HE, HO, HT⟩
  iapply (cur3 (st_take I K c (2, 0) 2 rfl rfl rfl)) $$ HE HO HT
  iintro ⟨HO, HT⟩
  iapply (cur3 (st_take I K c (3, 0) 3 rfl rfl rfl)) $$ HE HO HT
  iintro ⟨HO, HT⟩
  iapply (cur3 (st_take I K c (4, 0) 4 rfl rfl rfl)) $$ HE HO HT
  iintro ⟨HO, HT⟩
  iapply (st_ret c)
  isplitr; · ipureintro; rfl
  isplitl [HO]; · iexact HO
  iexact HT

theorem p16 (c : Dev nD) (v20 v24 v26 v112 v122 : BitVec 32) :
    iprop(Env I K ∗ Debt c 7 14 0 ∗ TW I 1 pA c 5 ∗ some' c (resC c 0) ∗ some' c (outB c 0))
      ⊢ WP c (onBufs (k0_part16 (F := F)) c v20 v24 v26 v112 v122 (I.sum5 c 0))
          fun _ => iprop(Debt c 7 14 0 ∗ TW I 1 pA c 7 ∗ TSh I c 0 0 ∗ owns (c : Thread nD τ) (outB c 0) fullShare (I.ownv c 0)) := by
  rw [k0_part16_eq_skeleton]
  unfold onBufs k0_part16_skel
  simp only [Prog.lift, Prog.bind_op, Prog.bind_ret, Prog.pure_eq_ret]
  iintro ⟨#HE, HO, HT, HR, HB⟩
  iapply (cur3 (st_take I K c (5, 0) 5 rfl rfl rfl)) $$ HE HO HT
  iintro ⟨HO, HT⟩
  iapply (cur3 (st_take I K c (6, 0) 6 rfl rfl rfl)) $$ HE HO HT
  iintro ⟨HO, HT⟩
  iapply (st_putres c c 0 (off5_eq c 0) (off5_eq c 0)) $$ HR
  iintro HR
  ihave HR := (show (owns (c : Thread nD τ) (resC c 0) fullShare (k0_pay21 (I.sum5 c 0) (I.part (peer 5 c) c 0) (I.part (peer 6 c) c 0)) : sProp 𝕄) ⊢ TSh I c 0 0 from sh_start I c 0) $$ HR
  iapply (st_putout c c 0 (off6_eq c 0) (off6_eq c 0)) $$ HB
  iintro HB
  iapply (st_ret c)
  isplitl [HO]; · iexact HO
  isplitl [HT]; · iexact HT
  isplitl [HR]; · iexact HR
  iexact HB

theorem p17 (c : Dev nD) (v34 v47 v60 v122 w : BitVec 32) :
    iprop(Env I K ∗ Debt c 7 14 0 ∗ TAg c 0 ∗ TSh I c 0 0)
      ⊢ WP c (onBufs (k0_part17 (F := F)) c v34 v47 v60 v122 w) fun _ => iprop(Debt c 7 14 3 ∗ TAg c 3 ∗ TSh I c 0 3) := by
  rw [k0_part17_eq_skeleton]
  unfold onBufs k0_part17_skel
  simp only [Prog.lift, Prog.bind_op, Prog.bind_ret, Prog.pure_eq_ret]
  iintro ⟨#HE, HO, HG, HS⟩
  iapply (cur4 (st_ag I K c _ (0, 0) (e := 0) (j := 0) rfl rfl (dev22_eq c) (res_eq c 0 (off7_eq c 0) _) (res_eq c 0 (off7_eq c 0) _) rfl rfl)) $$ HE HO HG HS
  iintro ⟨HO, HG, HS⟩
  iapply (cur4 (st_ag I K c _ (1, 0) (e := 1) (j := 1) rfl rfl (dev23_eq c) (res_eq c 0 (off7_eq c 0) _) (res_eq c 0 (off7_eq c 0) _) rfl rfl)) $$ HE HO HG HS
  iintro ⟨HO, HG, HS⟩
  iapply (cur4 (st_ag I K c _ (2, 0) (e := 2) (j := 2) rfl rfl (dev24_eq c) (res_eq c 0 (off7_eq c 0) _) (res_eq c 0 (off7_eq c 0) _) rfl rfl)) $$ HE HO HG HS
  iintro ⟨HO, HG, HS⟩
  iapply (st_ret c)
  isplitl [HO]; · iexact HO
  isplitl [HG]; · iexact HG
  iexact HS

theorem p18 (c : Dev nD) (v73 v86 v99 v112 v122 : BitVec 32) :
    iprop(Env I K ∗ Debt c 7 14 3 ∗ TAg c 3 ∗ TSh I c 0 3)
      ⊢ WP c (onBufs (k0_part18 (F := F)) c v73 v86 v99 v112 v122) fun _ => iprop(Debt c 7 14 6 ∗ TAg c 6 ∗ TSh I c 0 6) := by
  rw [k0_part18_eq_skeleton]
  unfold onBufs k0_part18_skel
  simp only [Prog.lift, Prog.bind_op, Prog.bind_ret, Prog.pure_eq_ret]
  iintro ⟨#HE, HO, HG, HS⟩
  iapply (cur4 (st_ag I K c _ (3, 0) (e := 3) (j := 3) rfl rfl (dev25_eq c) (res_eq c 0 (off7_eq c 0) _) (res_eq c 0 (off7_eq c 0) _) rfl rfl)) $$ HE HO HG HS
  iintro ⟨HO, HG, HS⟩
  iapply (cur4 (st_ag I K c _ (4, 0) (e := 4) (j := 4) rfl rfl (dev26_eq c) (res_eq c 0 (off7_eq c 0) _) (res_eq c 0 (off7_eq c 0) _) rfl rfl)) $$ HE HO HG HS
  iintro ⟨HO, HG, HS⟩
  iapply (cur4 (st_ag I K c _ (5, 0) (e := 5) (j := 5) rfl rfl (dev27_eq c) (res_eq c 0 (off7_eq c 0) _) (res_eq c 0 (off7_eq c 0) _) rfl rfl)) $$ HE HO HG HS
  iintro ⟨HO, HG, HS⟩
  iapply (st_ret c)
  isplitl [HO]; · iexact HO
  isplitl [HG]; · iexact HG
  iexact HS

/-! ## The second half of the rows -/

theorem p19 (c : Dev nD) (v20 v34 v47 v614 w : BitVec 32) :
    iprop(Env I K ∗ Debt c 7 14 6 ∗ TAg c 6 ∗ TSh I c 0 6 ∗ owns (c : Thread nD τ) nearM fullShare (I.nearS c c) ∗ TW I 1 pA c 7)
      ⊢ WP c (onBufs (k0_part19 (F := F)) c v20 v34 v47 v614 w)
          fun r => iprop(⌜r = ⟨k0_pay23 (I.mine c 1) (I.part (peer 0 c) c 1) (I.part (peer 1 c) c 1), 1#32⟩⌝
            ∗ Debt c 7 14 7 ∗ TAg c 7 ∗ TSh I c 0 7 ∗ owns (c : Thread nD τ) nearM fullShare (I.nearS c c) ∗ TW I 1 pA c 9) := by
  rw [k0_part19_eq_skeleton]
  unfold onBufs k0_part19_skel
  simp only [Prog.lift, Prog.bind_op, Prog.bind_ret, Prog.pure_eq_ret]
  iintro ⟨#HE, HO, HG, HS, HN, HT⟩
  iapply (cur4 (st_ag I K c _ (6, 0) (e := 6) (j := 6) rfl rfl (dev28_eq c) (res_eq c 0 (off7_eq c 0) _) (res_eq c 0 (off7_eq c 0) _) rfl rfl)) $$ HE HO HG HS
  iintro ⟨HO, HG, HS⟩
  iapply (st_ldmine I c 1 (off4_eq c 1)) $$ HN
  iintro HN
  iapply (cur3 (st_take I K c (0, 1) 7 rfl rfl rfl)) $$ HE HO HT
  iintro ⟨HO, HT⟩
  iapply (cur3 (st_take I K c (1, 1) 8 rfl rfl rfl)) $$ HE HO HT
  iintro ⟨HO, HT⟩
  iapply (st_ret c)
  isplitr; · ipureintro; rfl
  isplitl [HO]; · iexact HO
  isplitl [HG]; · iexact HG
  isplitl [HS]; · iexact HS
  isplitl [HN]; · iexact HN
  iexact HT

theorem p20 (c : Dev nD) (v60 v73 v86 w : BitVec 32) (v : FVec F S128x256 .f32) :
    iprop(Env I K ∗ Debt c 7 14 7 ∗ TW I 1 pA c 9)
      ⊢ WP c (onBufs (k0_part20 (F := F)) v60 v73 v86 v w)
          fun r => iprop(⌜r = ⟨k0_pay24 v (I.part (peer 2 c) c 1) (I.part (peer 3 c) c 1) (I.part (peer 4 c) c 1), 1#32⟩⌝ ∗ Debt c 7 14 7 ∗ TW I 1 pA c 12) := by
  rw [k0_part20_eq_skeleton]
  unfold onBufs k0_part20_skel
  simp only [Prog.lift, Prog.bind_op, Prog.bind_ret, Prog.pure_eq_ret]
  iintro ⟨#HE, HO, HT⟩
  iapply (cur3 (st_take I K c (2, 1) 9 rfl rfl rfl)) $$ HE HO HT
  iintro ⟨HO, HT⟩
  iapply (cur3 (st_take I K c (3, 1) 10 rfl rfl rfl)) $$ HE HO HT
  iintro ⟨HO, HT⟩
  iapply (cur3 (st_take I K c (4, 1) 11 rfl rfl rfl)) $$ HE HO HT
  iintro ⟨HO, HT⟩
  iapply (st_ret c)
  isplitr; · ipureintro; rfl
  isplitl [HO]; · iexact HO
  iexact HT

theorem p21 (c : Dev nD) (v20 v24 v26 v99 v112 v122 w : BitVec 32) :
    iprop(Env I K ∗ Debt c 7 14 7 ∗ TW I 1 pA c 12 ∗ some' c (resC c 1) ∗ some' c (outB c 1))
      ⊢ WP c (onBufs (k0_part21 (F := F)) c v20 v24 v26 v99 v112 v122 (I.sum5 c 1) w)
          fun _ => iprop(Debt c 7 14 7 ∗ TW I 1 pA c 14 ∗ TSh I c 1 0 ∗ owns (c : Thread nD τ) (outB c 1) fullShare (I.ownv c 1)) := by
  rw [k0_part21_eq_skeleton]
  unfold onBufs k0_part21_skel
  simp only [Prog.lift, Prog.bind_op, Prog.bind_ret, Prog.pure_eq_ret]
  iintro ⟨#HE, HO, HT, HR, HB⟩
  iapply (cur3 (st_take I K c (5, 1) 12 rfl rfl rfl)) $$ HE HO HT
  iintro ⟨HO, HT⟩
  iapply (cur3 (st_take I K c (6, 1) 13 rfl rfl rfl)) $$ HE HO HT
  iintro ⟨HO, HT⟩
  iapply (st_putres c c 1 (off5_eq c 1) (off5_eq c 1)) $$ HR
  iintro HR
  ihave HR := (show (owns (c : Thread nD τ) (resC c 1) fullShare (k0_pay26 (I.sum5 c 1) (I.part (peer 5 c) c 1) (I.part (peer 6 c) c 1)) : sProp 𝕄) ⊢ TSh I c 1 0 from sh_start I c 1) $$ HR
  iapply (st_putout c c 1 (off6_eq c 1) (off6_eq c 1)) $$ HB
  iintro HB
  iapply (st_ret c)
  isplitl [HO]; · iexact HO
  isplitl [HT]; · iexact HT
  isplitl [HR]; · iexact HR
  iexact HB

theorem p22 (c : Dev nD) (v34 v47 v60 v122 : BitVec 32) :
    iprop(Env I K ∗ Debt c 7 14 7 ∗ TAg c 7 ∗ TSh I c 1 0)
      ⊢ WP c (onBufs (k0_part22 (F := F)) c v34 v47 v60 v122) fun _ => iprop(Debt c 7 14 10 ∗ TAg c 10 ∗ TSh I c 1 3) := by
  rw [k0_part22_eq_skeleton]
  unfold onBufs k0_part22_skel
  simp only [Prog.lift, Prog.bind_op, Prog.bind_ret, Prog.pure_eq_ret]
  iintro ⟨#HE, HO, HG, HS⟩
  iapply (cur4 (st_ag I K c _ (0, 1) (e := 7) (j := 0) rfl rfl (dev29_eq c) (res_eq c 1 (off7_eq c 1) _) (res_eq c 1 (off7_eq c 1) _) rfl rfl)) $$ HE HO HG HS
  iintro ⟨HO, HG, HS⟩
  iapply (cur4 (st_ag I K c _ (1, 1) (e := 8) (j := 1) rfl rfl (dev30_eq c) (res_eq c 1 (off7_eq c 1) _) (res_eq c 1 (off7_eq c 1) _) rfl rfl)) $$ HE HO HG HS
  iintro ⟨HO, HG, HS⟩
  iapply (cur4 (st_ag I K c _ (2, 1) (e := 9) (j := 2) rfl rfl (dev31_eq c) (res_eq c 1 (off7_eq c 1) _) (res_eq c 1 (off7_eq c 1) _) rfl rfl)) $$ HE HO HG HS
  iintro ⟨HO, HG, HS⟩
  iapply (st_ret c)
  isplitl [HO]; · iexact HO
  isplitl [HG]; · iexact HG
  iexact HS

theorem p23 (c : Dev nD) (v73 v86 v99 v122 w : BitVec 32) :
    iprop(Env I K ∗ Debt c 7 14 10 ∗ TAg c 10 ∗ TSh I c 1 3)
      ⊢ WP c (onBufs (k0_part23 (F := F)) c v73 v86 v99 v122 w) fun _ => iprop(Debt c 7 14 13 ∗ TAg c 13 ∗ TSh I c 1 6) := by
  rw [k0_part23_eq_skeleton]
  unfold onBufs k0_part23_skel
  simp only [Prog.lift, Prog.bind_op, Prog.bind_ret, Prog.pure_eq_ret]
  iintro ⟨#HE, HO, HG, HS⟩
  iapply (cur4 (st_ag I K c _ (3, 1) (e := 10) (j := 3) rfl rfl (dev32_eq c) (res_eq c 1 (off7_eq c 1) _) (res_eq c 1 (off7_eq c 1) _) rfl rfl)) $$ HE HO HG HS
  iintro ⟨HO, HG, HS⟩
  iapply (cur4 (st_ag I K c _ (4, 1) (e := 11) (j := 4) rfl rfl (dev33_eq c) (res_eq c 1 (off7_eq c 1) _) (res_eq c 1 (off7_eq c 1) _) rfl rfl)) $$ HE HO HG HS
  iintro ⟨HO, HG, HS⟩
  iapply (cur4 (st_ag I K c _ (5, 1) (e := 12) (j := 5) rfl rfl (dev34_eq c) (res_eq c 1 (off7_eq c 1) _) (res_eq c 1 (off7_eq c 1) _) rfl rfl)) $$ HE HO HG HS
  iintro ⟨HO, HG, HS⟩
  iapply (st_ret c)
  isplitl [HO]; · iexact HO
  isplitl [HG]; · iexact HG
  iexact HS

end Cert.Scatter
-- ==== Proof.Run3.lean ====
/-
# The program, third part: the peers' blocks and the end

The pieces that take the peers' chunks of the result, store them in the output, and wait for the device's own sends.
-/
module

public import proofs.«01_k».proof.Proof.Run2

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ)

/-- What a device holds while it takes the peers' chunks: `j` chunks have been waited for, and `i` of them stored. -/
def Got (c : Dev nD) (j i : ℕ) : sProp (MT nD τ sig Unit (Elt F) ℕ UU ℕ) := iprop(Debt c 7 14 14 ∗ TW I 3 pA c j ∗ TOut I c i)

/-- A wait for a peer's chunk of the result. -/
theorem st_got (c : Dev nD) (t : Fin 7 × Fin 2) (j : ℕ) {i : ℕ} (hj : pA t = j) {s : DmaSem sig} (hs : s = dsem 3 t.2 t.1)
    {src dst : Memref sig .tc .vmem S128x256 .bf16} {hsrc : src.view.WordExact} {hdst : dst.view.WordExact}
    {α : Type} {Q : α → sProp 𝕄} {k : PUnit → Prog (TpuEff nD τ sig (Elt F) Λ₀ .tc) α} :
    iprop(Env I K ∗ Got I c j i) ⊢ iprop((Got I c (j + 1) i -∗ WP c (k ⟨⟩) Q) -∗ WP c (.op (.waitDma2 s src dst hsrc hdst) k) Q) := by
  unfold Got
  iintro ⟨#HE, HO, HT, HU⟩ Hk
  iapply (cur3 (st_wait I K 3 pA pA_inj c t hj (.inr rfl) hs (N_any dst))) $$ HE HO HT
  iintro ⟨HO, HT⟩
  iapply Hk
  isplitl [HO]; · iexact HO
  isplitl [HT]; · iexact HT
  iexact HU

/-- The load of a peer's chunk of the result. -/
theorem st_ldgot (c : Dev nD) (t : Fin 7 × Fin 2) {j i : ℕ} (hj : pA t < j) {off : Fin 2 → ℕ} (ho : off = cOff (peer t.1 c) t.2)
    {inb : ∀ a, off a + S128x256.size a ≤ S2048x256.size a}
    {hl : (resM : Memref sig .tc .vmem S2048x256 .bf16).view.LoadsAt (Rect.unit (s := S2048x256) off S128x256.size inb).toLoadRect}
    {α : Type} {Q : α → sProp 𝕄} {k : (S128x256.Idx → Elt F .bf16) → Prog (TpuEff nD τ sig (Elt F) Λ₀ .tc) α} :
    Got I c j i
      ⊢ iprop((Got I c j i -∗ WP c (k (I.resv (peer t.1 c) t.2)) Q)
          -∗ WP c (.op (.load resM (Rect.unit (s := S2048x256) off S128x256.size inb).toLoadRect hl) k) Q) := by
  unfold Got
  iintro ⟨HO, HT, HU⟩ Hk
  iapply (st_ldres I c t hj ho) $$ HT
  iintro HT
  iapply Hk
  isplitl [HO]; · iexact HO
  isplitl [HT]; · iexact HT
  iexact HU

/-- The load and the store of a peer's block of the output. -/
theorem st_put (c : Dev nD) (t : Fin 7 × Fin 2) (i : ℕ) {j : ℕ} (hi : pA t = i) {off off' : Fin 3 → ℕ}
    (ho : off = oOff (peer t.1 c) t.2) (ho' : off' = oOff (peer t.1 c) t.2)
    {w : S1x128x256.Idx → Elt F .f32} (hw : w = k0_pay28 (I.resv (peer t.1 c) t.2))
    {inb : ∀ a, off a + S1x128x256.size a ≤ S4x512x256.size a} {inb' : ∀ a, off' a + S1x128x256.size a ≤ S4x512x256.size a}
    {hl : (oM : Memref sig .tc .vmem S4x512x256 .f32).view.LoadsAt (Rect.unit (s := S4x512x256) off S1x128x256.size inb).toLoadRect}
    {hx : ((oM : Memref sig .tc .vmem S4x512x256 .f32).access (Rect.unit (s := S4x512x256) off' S1x128x256.size inb')).Stores Finset.univ}
    {hm : (Finset.univ : Finset (Rect.unit (s := S4x512x256) off' S1x128x256.size inb').shape.Idx) = Finset.univ ∨ ∀ a, (Rect.unit (s := S4x512x256) off' S1x128x256.size inb').stride a = 1}
    {α : Type} {Q : α → sProp 𝕄} {k : PUnit → Prog (TpuEff nD τ sig (Elt F) Λ₀ .tc) α} :
    Got I c j i
      ⊢ iprop((Got I c j (i + 1) -∗ WP c (k ⟨⟩) Q)
          -∗ WP c (.op (.load oM (Rect.unit (s := S4x512x256) off S1x128x256.size inb).toLoadRect hl)
            fun _ => .op (.store oM (Rect.unit (s := S4x512x256) off' S1x128x256.size inb') w Finset.univ hx hm) k) Q) := by
  unfold Got
  iintro ⟨HO, HT, HU⟩ Hk
  iapply (st_ldout I c t hi ho) $$ HU
  iintro %v HU
  iapply (st_stout I c t hi ho' hw) $$ HU
  iintro HU
  iapply Hk
  isplitl [HO]; · iexact HO
  isplitl [HT]; · iexact HT
  iexact HU

/-- A wait for one of the device's own sends. -/
theorem st_sent (a : Fin 4) (p : Fin 7 × Fin 2 → ℕ) (hp : Function.Injective p) (c : Dev nD) (t : Fin 7 × Fin 2) (j : ℕ) (hj : p t = j)
    {s : DmaSem sig} (hs : s = dsem a t.2 t.1) {α : Type}
    {src dst : Memref sig .tc .vmem S128x256 .bf16} {hsrc : src.view.WordExact} {hdst : dst.view.WordExact}
    {Q : α → sProp 𝕄} {k : PUnit → Prog (TpuEff nD τ sig (Elt F) Λ₀ .tc) α} :
    iprop(Env I K ∗ Debt c 7 14 14 ∗ TW I a p c j)
      ⊢ iprop(((Debt c 7 14 14 ∗ TW I a p c (j + 1)) -∗ WP c (k ⟨⟩) Q) -∗ WP c (.op (.waitDma2 s src dst hsrc hdst) k) Q) :=
  st_wait I K a p hp c t hj (.inr rfl) hs (N_any dst)

/-! ## The peers' blocks -/

theorem p24 (c : Dev nD) (v20 v24 v26 v34 v39 v52 v112 : BitVec 32) :
    iprop(Env I K ∗ Debt c 7 14 13 ∗ TAg c 13 ∗ TSh I c 1 6 ∗ TW I 3 pA c 0 ∗ TOut I c 0)
      ⊢ WP c (onBufs (k0_part24 (F := F)) c v20 v24 v26 v34 v39 v52 v112) fun _ => iprop(Got I c 1 1 ∗ TAg c 14 ∗ TSh I c 1 7) := by
  rw [k0_part24_eq_skeleton]
  unfold onBufs k0_part24_skel
  simp only [Prog.lift, Prog.bind_op, Prog.bind_ret, Prog.pure_eq_ret]
  iintro ⟨#HE, HO, HA, HS, HT, HU⟩
  iapply (cur4 (st_ag I K c _ (6, 1) (e := 13) (j := 6) rfl rfl (dev35_eq c) (res_eq c 1 (off7_eq c 1) _) (res_eq c 1 (off7_eq c 1) _) rfl rfl)) $$ HE HO HA HS
  iintro ⟨HO, HA, HS⟩
  ihave HG := (show iprop(Debt c 7 14 14 ∗ TW I 3 pA c 0 ∗ TOut I c 0) ⊢ Got I c 0 0 from .rfl) $$ [HO HT HU]
  · isplitl [HO]; · iexact HO
    isplitl [HT]; · iexact HT
    iexact HU
  iapply (cur2 (st_got I K c (0, 0) 0 rfl rfl)) $$ HE HG
  iintro HG
  iapply (st_ldgot I c (0, 0) (by decide) (off8_eq c 0 0)) $$ HG
  iintro HG
  iapply (st_put I c (0, 0) 0 rfl (off9_eq c 0 0) (off9_eq c 0 0) rfl) $$ HG
  iintro HG
  iapply (st_ret c)
  isplitl [HG]; · iexact HG
  isplitl [HA]; · iexact HA
  iexact HS

theorem p25 (c : Dev nD) (v20 v24 v26 v47 v52 v60 v65 : BitVec 32) :
    iprop(Env I K ∗ Got I c 1 1) ⊢ WP c (onBufs (k0_part25 (F := F)) c v20 v24 v26 v47 v52 v60 v65) fun _ => Got I c 3 2 := by
  rw [k0_part25_eq_skeleton]
  unfold onBufs k0_part25_skel
  simp only [Prog.lift, Prog.bind_op, Prog.bind_ret, Prog.pure_eq_ret]
  iintro ⟨#HE, HG⟩
  iapply (cur2 (st_got I K c (1, 0) 1 rfl rfl)) $$ HE HG
  iintro HG
  iapply (st_ldgot I c (1, 0) (by decide) (off8_eq c 1 0)) $$ HG
  iintro HG
  iapply (st_put I c (1, 0) 1 rfl (off9_eq c 1 0) (off9_eq c 1 0) rfl) $$ HG
  iintro HG
  iapply (cur2 (st_got I K c (2, 0) 2 rfl rfl)) $$ HE HG
  iintro HG
  iapply (st_ret c)
  iexact HG

theorem p26 (c : Dev nD) (v20 v24 v26 v65 v73 v78 v831 : BitVec 32) :
    iprop(Env I K ∗ Got I c 3 2) ⊢ WP c (onBufs (k0_part26 (F := F)) c v20 v24 v26 v65 v73 v78 v831) fun r => iprop(⌜r = k0_pay31 (I.resv (peer 3 c) 0)⌝ ∗ Got I c 4 3) := by
  rw [k0_part26_eq_skeleton]
  unfold onBufs k0_part26_skel
  simp only [Prog.lift, Prog.bind_op, Prog.bind_ret, Prog.pure_eq_ret]
  iintro ⟨#HE, HG⟩
  iapply (st_ldgot I c (2, 0) (by decide) (off8_eq c 2 0)) $$ HG
  iintro HG
  iapply (st_put I c (2, 0) 2 rfl (off9_eq c 2 0) (off9_eq c 2 0) rfl) $$ HG
  iintro HG
  iapply (cur2 (st_got I K c (3, 0) 3 rfl rfl)) $$ HE HG
  iintro HG
  iapply (st_ldgot I c (3, 0) (by decide) (off8_eq c 3 0)) $$ HG
  iintro HG
  iapply (st_ret c)
  isplitr; · ipureintro; rfl
  iexact HG

theorem p27 (c : Dev nD) (v20 v24 v26 v86 v91 v99 v104 : BitVec 32) :
    iprop(Env I K ∗ Got I c 4 3) ⊢ WP c (onBufs (k0_part27 (F := F)) c v20 v24 v26 v86 v91 v99 v104 (k0_pay31 (I.resv (peer 3 c) 0))) fun _ => Got I c 5 5 := by
  rw [k0_part27_eq_skeleton]
  unfold onBufs k0_part27_skel
  simp only [Prog.lift, Prog.bind_op, Prog.bind_ret, Prog.pure_eq_ret]
  iintro ⟨#HE, HG⟩
  iapply (st_put I c (3, 0) 3 rfl (off9_eq c 3 0) (off9_eq c 3 0) rfl) $$ HG
  iintro HG
  iapply (cur2 (st_got I K c (4, 0) 4 rfl rfl)) $$ HE HG
  iintro HG
  iapply (st_ldgot I c (4, 0) (by decide) (off8_eq c 4 0)) $$ HG
  iintro HG
  iapply (st_put I c (4, 0) 4 rfl (off9_eq c 4 0) (off9_eq c 4 0) rfl) $$ HG
  iintro HG
  iapply (st_ret c)
  iexact HG

theorem p28 (c : Dev nD) (v20 v24 v26 v104 v112 v117 : BitVec 32) :
    iprop(Env I K ∗ Got I c 5 5) ⊢ WP c (onBufs (k0_part28 (F := F)) c v20 v24 v26 v104 v112 v117) fun _ => Got I c 7 6 := by
  rw [k0_part28_eq_skeleton]
  unfold onBufs k0_part28_skel
  simp only [Prog.lift, Prog.bind_op, Prog.bind_ret, Prog.pure_eq_ret]
  iintro ⟨#HE, HG⟩
  iapply (cur2 (st_got I K c (5, 0) 5 rfl rfl)) $$ HE HG
  iintro HG
  iapply (st_ldgot I c (5, 0) (by decide) (off8_eq c 5 0)) $$ HG
  iintro HG
  iapply (st_put I c (5, 0) 5 rfl (off9_eq c 5 0) (off9_eq c 5 0) rfl) $$ HG
  iintro HG
  iapply (cur2 (st_got I K c (6, 0) 6 rfl rfl)) $$ HE HG
  iintro HG
  iapply (st_ret c)
  iexact HG

theorem p29 (c : Dev nD) (v20 v24 v26 v34 v39 v52 v117 v929 v931 w : BitVec 32) :
    iprop(Env I K ∗ Got I c 7 6) ⊢ WP c (onBufs (k0_part29 (F := F)) c v20 v24 v26 v34 v39 v52 v117 v929 v931 w) fun _ => Got I c 8 8 := by
  rw [k0_part29_eq_skeleton]
  unfold onBufs k0_part29_skel
  simp only [Prog.lift, Prog.bind_op, Prog.bind_ret, Prog.pure_eq_ret]
  iintro ⟨#HE, HG⟩
  iapply (st_ldgot I c (6, 0) (by decide) (off8_eq c 6 0)) $$ HG
  iintro HG
  iapply (st_put I c (6, 0) 6 rfl (off9_eq c 6 0) (off9_eq c 6 0) rfl) $$ HG
  iintro HG
  iapply (cur2 (st_got I K c (0, 1) 7 rfl rfl)) $$ HE HG
  iintro HG
  iapply (st_ldgot I c (0, 1) (by decide) (off8_eq c 0 1)) $$ HG
  iintro HG
  iapply (st_put I c (0, 1) 7 rfl (off9_eq c 0 1) (off9_eq c 0 1) rfl) $$ HG
  iintro HG
  iapply (st_ret c)
  iexact HG

theorem p30 (c : Dev nD) (v20 v24 v26 v47 v52 v60 v65 w : BitVec 32) :
    iprop(Env I K ∗ Got I c 8 8) ⊢ WP c (onBufs (k0_part30 (F := F)) c v20 v24 v26 v47 v52 v60 v65 w) fun _ => Got I c 10 9 := by
  rw [k0_part30_eq_skeleton]
  unfold onBufs k0_part30_skel
  simp only [Prog.lift, Prog.bind_op, Prog.bind_ret, Prog.pure_eq_ret]
  iintro ⟨#HE, HG⟩
  iapply (cur2 (st_got I K c (1, 1) 8 rfl rfl)) $$ HE HG
  iintro HG
  iapply (st_ldgot I c (1, 1) (by decide) (off8_eq c 1 1)) $$ HG
  iintro HG
  iapply (st_put I c (1, 1) 8 rfl (off9_eq c 1 1) (off9_eq c 1 1) rfl) $$ HG
  iintro HG
  iapply (cur2 (st_got I K c (2, 1) 9 rfl rfl)) $$ HE HG
  iintro HG
  iapply (st_ret c)
  iexact HG

theorem p31 (c : Dev nD) (v20 v24 v26 v65 v73 v78 v998 w : BitVec 32) :
    iprop(Env I K ∗ Got I c 10 9) ⊢ WP c (onBufs (k0_part31 (F := F)) c v20 v24 v26 v65 v73 v78 v998 w) fun r => iprop(⌜∃ v, r = ⟨v, k0_pay39 (I.resv (peer 3 c) 1)⟩⌝ ∗ Got I c 11 10) := by
  rw [k0_part31_eq_skeleton]
  unfold onBufs k0_part31_skel
  simp only [Prog.lift, Prog.bind_op, Prog.bind_ret, Prog.pure_eq_ret]
  iintro ⟨#HE, HG⟩
  iapply (st_ldgot I c (2, 1) (by decide) (off8_eq c 2 1)) $$ HG
  iintro HG
  iapply (st_put I c (2, 1) 9 rfl (off9_eq c 2 1) (off9_eq c 2 1) rfl) $$ HG
  iintro HG
  iapply (cur2 (st_got I K c (3, 1) 10 rfl rfl)) $$ HE HG
  iintro HG
  iapply (st_ldgot I c (3, 1) (by decide) (off8_eq c 3 1)) $$ HG
  iintro HG
  iapply (st_ret c)
  isplitr; · ipureintro; exact ⟨_, rfl⟩
  iexact HG

theorem p32 (c : Dev nD) (v20 v24 v26 v86 v91 v99 v104 v1028 : BitVec 32) :
    iprop(Env I K ∗ Got I c 11 10) ⊢ WP c (onBufs (k0_part32 (F := F)) c v20 v24 v26 v86 v91 v99 v104 v1028 (k0_pay39 (I.resv (peer 3 c) 1))) fun _ => Got I c 12 12 := by
  rw [k0_part32_eq_skeleton]
  unfold onBufs k0_part32_skel
  simp only [Prog.lift, Prog.bind_op, Prog.bind_ret, Prog.pure_eq_ret]
  iintro ⟨#HE, HG⟩
  iapply (st_put I c (3, 1) 10 rfl (off9_eq c 3 1) (off9_eq c 3 1) rfl) $$ HG
  iintro HG
  iapply (cur2 (st_got I K c (4, 1) 11 rfl rfl)) $$ HE HG
  iintro HG
  iapply (st_ldgot I c (4, 1) (by decide) (off8_eq c 4 1)) $$ HG
  iintro HG
  iapply (st_put I c (4, 1) 11 rfl (off9_eq c 4 1) (off9_eq c 4 1) rfl) $$ HG
  iintro HG
  iapply (st_ret c)
  iexact HG

theorem p33 (c : Dev nD) (v20 v24 v26 v104 v112 v117 : BitVec 32) :
    iprop(Env I K ∗ Got I c 12 12) ⊢ WP c (onBufs (k0_part33 (F := F)) c v20 v24 v26 v104 v112 v117) fun _ => Got I c 14 13 := by
  rw [k0_part33_eq_skeleton]
  unfold onBufs k0_part33_skel
  simp only [Prog.lift, Prog.bind_op, Prog.bind_ret, Prog.pure_eq_ret]
  iintro ⟨#HE, HG⟩
  iapply (cur2 (st_got I K c (5, 1) 12 rfl rfl)) $$ HE HG
  iintro HG
  iapply (st_ldgot I c (5, 1) (by decide) (off8_eq c 5 1)) $$ HG
  iintro HG
  iapply (st_put I c (5, 1) 12 rfl (off9_eq c 5 1) (off9_eq c 5 1) rfl) $$ HG
  iintro HG
  iapply (cur2 (st_got I K c (6, 1) 13 rfl rfl)) $$ HE HG
  iintro HG
  iapply (st_ret c)
  iexact HG

/-! ## The device's own sends -/

theorem p34 (c : Dev nD) (v117 v1097 v1099 : BitVec 32) :
    iprop(Env I K ∗ Got I c 14 13 ∗ TW I 0 pS c 0)
      ⊢ WP c (onBufs (k0_part34 (F := F)) c v117 v1097 v1099) fun _ => iprop(Debt c 7 14 14 ∗ TW I 3 pA c 14 ∗ TOut I c 14 ∗ TW I 0 pS c 4) := by
  rw [k0_part34_eq_skeleton]
  unfold onBufs k0_part34_skel
  simp only [Prog.lift, Prog.bind_op, Prog.bind_ret, Prog.pure_eq_ret]
  iintro ⟨#HE, HG, HT⟩
  iapply (st_ldgot I c (6, 1) (by decide) (off8_eq c 6 1)) $$ HG
  iintro HG
  iapply (st_put I c (6, 1) 13 rfl (off9_eq c 6 1) (off9_eq c 6 1) rfl) $$ HG
  iintro HG
  ihave HG := (show Got I c 14 14 ⊢ iprop(Debt c 7 14 14 ∗ TW I 3 pA c 14 ∗ TOut I c 14) from .rfl) $$ HG
  icases HG with ⟨HO, HW, HU⟩
  iapply (cur3 (st_sent I K 0 pS pS_inj c (0, 0) 0 rfl rfl)) $$ HE HO HT
  iintro ⟨HO, HT⟩
  iapply (cur3 (st_sent I K 0 pS pS_inj c (0, 1) 1 rfl rfl)) $$ HE HO HT
  iintro ⟨HO, HT⟩
  iapply (cur3 (st_sent I K 0 pS pS_inj c (1, 0) 2 rfl rfl)) $$ HE HO HT
  iintro ⟨HO, HT⟩
  iapply (cur3 (st_sent I K 0 pS pS_inj c (1, 1) 3 rfl rfl)) $$ HE HO HT
  iintro ⟨HO, HT⟩
  iapply (st_ret c)
  isplitl [HO]; · iexact HO
  isplitl [HW]; · iexact HW
  isplitl [HU]; · iexact HU
  iexact HT

theorem p35 (c : Dev nD) :
    iprop(Env I K ∗ Debt c 7 14 14 ∗ TW I 0 pS c 4)
      ⊢ WP c (onBufs (k0_part35 (F := F)) c) fun _ => iprop(Debt c 7 14 14 ∗ TW I 0 pS c 9) := by
  rw [k0_part35_eq_skeleton]
  unfold onBufs k0_part35_skel
  simp only [Prog.lift, Prog.bind_op, Prog.bind_ret, Prog.pure_eq_ret]
  iintro ⟨#HE, HO, HT⟩
  iapply (cur3 (st_sent I K 0 pS pS_inj c (2, 0) 4 rfl rfl)) $$ HE HO HT
  iintro ⟨HO, HT⟩
  iapply (cur3 (st_sent I K 0 pS pS_inj c (2, 1) 5 rfl rfl)) $$ HE HO HT
  iintro ⟨HO, HT⟩
  iapply (cur3 (st_sent I K 0 pS pS_inj c (3, 0) 6 rfl rfl)) $$ HE HO HT
  iintro ⟨HO, HT⟩
  iapply (cur3 (st_sent I K 0 pS pS_inj c (3, 1) 7 rfl rfl)) $$ HE HO HT
  iintro ⟨HO, HT⟩
  iapply (cur3 (st_sent I K 0 pS pS_inj c (4, 0) 8 rfl rfl)) $$ HE HO HT
  iintro ⟨HO, HT⟩
  iapply (st_ret c)
  isplitl [HO]; · iexact HO
  iexact HT

theorem p36 (c : Dev nD) :
    iprop(Env I K ∗ Debt c 7 14 14 ∗ TW I 0 pS c 9 ∗ TW I 2 pA c 0)
      ⊢ WP c (onBufs (k0_part36 (F := F)) c) fun _ => iprop(Debt c 7 14 14 ∗ TW I 0 pS c 14 ∗ TW I 2 pA c 1) := by
  rw [k0_part36_eq_skeleton]
  unfold onBufs k0_part36_skel
  simp only [Prog.lift, Prog.bind_op, Prog.bind_ret, Prog.pure_eq_ret]
  iintro ⟨#HE, HO, HT, HA⟩
  iapply (cur3 (st_sent I K 0 pS pS_inj c (4, 1) 9 rfl rfl)) $$ HE HO HT
  iintro ⟨HO, HT⟩
  iapply (cur3 (st_sent I K 0 pS pS_inj c (5, 0) 10 rfl rfl)) $$ HE HO HT
  iintro ⟨HO, HT⟩
  iapply (cur3 (st_sent I K 0 pS pS_inj c (5, 1) 11 rfl rfl)) $$ HE HO HT
  iintro ⟨HO, HT⟩
  iapply (cur3 (st_sent I K 0 pS pS_inj c (6, 0) 12 rfl rfl)) $$ HE HO HT
  iintro ⟨HO, HT⟩
  iapply (cur3 (st_sent I K 0 pS pS_inj c (6, 1) 13 rfl rfl)) $$ HE HO HT
  iintro ⟨HO, HT⟩
  iapply (cur3 (st_sent I K 2 pA pA_inj c (0, 0) 0 rfl rfl)) $$ HE HO HA
  iintro ⟨HO, HA⟩
  iapply (st_ret c)
  isplitl [HO]; · iexact HO
  isplitl [HT]; · iexact HT
  iexact HA

theorem p37 (c : Dev nD) :
    iprop(Env I K ∗ Debt c 7 14 14 ∗ TW I 2 pA c 1)
      ⊢ WP c (onBufs (k0_part37 (F := F)) c) fun _ => iprop(Debt c 7 14 14 ∗ TW I 2 pA c 7) := by
  rw [k0_part37_eq_skeleton]
  unfold onBufs k0_part37_skel
  simp only [Prog.lift, Prog.bind_op, Prog.bind_ret, Prog.pure_eq_ret]
  iintro ⟨#HE, HO, HT⟩
  iapply (cur3 (st_sent I K 2 pA pA_inj c (1, 0) 1 rfl rfl)) $$ HE HO HT
  iintro ⟨HO, HT⟩
  iapply (cur3 (st_sent I K 2 pA pA_inj c (2, 0) 2 rfl rfl)) $$ HE HO HT
  iintro ⟨HO, HT⟩
  iapply (cur3 (st_sent I K 2 pA pA_inj c (3, 0) 3 rfl rfl)) $$ HE HO HT
  iintro ⟨HO, HT⟩
  iapply (cur3 (st_sent I K 2 pA pA_inj c (4, 0) 4 rfl rfl)) $$ HE HO HT
  iintro ⟨HO, HT⟩
  iapply (cur3 (st_sent I K 2 pA pA_inj c (5, 0) 5 rfl rfl)) $$ HE HO HT
  iintro ⟨HO, HT⟩
  iapply (cur3 (st_sent I K 2 pA pA_inj c (6, 0) 6 rfl rfl)) $$ HE HO HT
  iintro ⟨HO, HT⟩
  iapply (st_ret c)
  isplitl [HO]; · iexact HO
  iexact HT

theorem p38 (c : Dev nD) :
    iprop(Env I K ∗ Debt c 7 14 14 ∗ TW I 2 pA c 7)
      ⊢ WP c (onBufs (k0_part38 (F := F)) c) fun _ => iprop(Debt c 7 14 14 ∗ TW I 2 pA c 13) := by
  rw [k0_part38_eq_skeleton]
  unfold onBufs k0_part38_skel
  simp only [Prog.lift, Prog.bind_op, Prog.bind_ret, Prog.pure_eq_ret]
  iintro ⟨#HE, HO, HT⟩
  iapply (cur3 (st_sent I K 2 pA pA_inj c (0, 1) 7 rfl rfl)) $$ HE HO HT
  iintro ⟨HO, HT⟩
  iapply (cur3 (st_sent I K 2 pA pA_inj c (1, 1) 8 rfl rfl)) $$ HE HO HT
  iintro ⟨HO, HT⟩
  iapply (cur3 (st_sent I K 2 pA pA_inj c (2, 1) 9 rfl rfl)) $$ HE HO HT
  iintro ⟨HO, HT⟩
  iapply (cur3 (st_sent I K 2 pA pA_inj c (3, 1) 10 rfl rfl)) $$ HE HO HT
  iintro ⟨HO, HT⟩
  iapply (cur3 (st_sent I K 2 pA pA_inj c (4, 1) 11 rfl rfl)) $$ HE HO HT
  iintro ⟨HO, HT⟩
  iapply (cur3 (st_sent I K 2 pA pA_inj c (5, 1) 12 rfl rfl)) $$ HE HO HT
  iintro ⟨HO, HT⟩
  iapply (st_ret c)
  isplitl [HO]; · iexact HO
  iexact HT

end Cert.Scatter
-- ==== Proof.Body.lean ====
/-
# The whole program of a device
-/
module

public import proofs.«01_k».proof.Proof.Run3

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ)

/-- A piece, and what follows it. -/
theorem st_part (c : Dev nD) {α β : Type} {p : Prog (TpuEff nD τ sig (Elt F) Λ₀ .tc) α} {k : α → Prog (TpuEff nD τ sig (Elt F) Λ₀ .tc) β}
    {P : sProp (MT nD τ sig Unit (Elt F) ℕ UU ℕ)} {R : α → sProp (MT nD τ sig Unit (Elt F) ℕ UU ℕ)} {Q : β → sProp (MT nD τ sig Unit (Elt F) ℕ UU ℕ)}
    (h : P ⊢ WP c p R) : P ⊢ iprop((∀ a, R a -∗ WP c (k a) Q) -∗ WP c (p >>= k) Q) := by
  have hb : WP c (p >>= k) Q = WP c p (fun a => WP c (k a) Q) := wp_bind frame (wpE (defs₀ (F := F)) 𝒱₀ (c : Thread nD τ) none) Set.univ p k Q
  rw [hb]
  refine h.trans ?_
  iintro H Hk
  iapply (wp_wand frame (wpE (defs₀ (F := F)) 𝒱₀ (c : Thread nD τ) none) Set.univ) $$ H
  iexact Hk

theorem st_part0 (c : Dev nD) {α β : Type} {p : Prog (TpuEff nD τ sig (Elt F) Λ₀ .tc) α} {k : α → Prog (TpuEff nD τ sig (Elt F) Λ₀ .tc) β}
    {R : α → sProp (MT nD τ sig Unit (Elt F) ℕ UU ℕ)} {Q : β → sProp (MT nD τ sig Unit (Elt F) ℕ UU ℕ)}
    (h : (emp : sProp 𝕄) ⊢ WP c p R) : iprop(∀ a, R a -∗ WP c (k a) Q) ⊢ WP c (p >>= k) Q := by
  iintro H
  iapply (st_part c h) $$ [] H
  iempintro

theorem cur5 {A B C D E R : sProp (MT nD τ sig Unit (Elt F) ℕ UU ℕ)} (h : iprop(A ∗ B ∗ C ∗ D ∗ E) ⊢ R) : A ⊢ iprop(B -∗ C -∗ D -∗ E -∗ R) := by
  iintro HA HB HC HD HE
  iapply h
  isplitl [HA]; · iexact HA
  isplitl [HB]; · iexact HB
  isplitl [HC]; · iexact HC
  isplitl [HD]; · iexact HD
  iexact HE
theorem cur6 {A B C D E G R : sProp (MT nD τ sig Unit (Elt F) ℕ UU ℕ)} (h : iprop(A ∗ B ∗ C ∗ D ∗ E ∗ G) ⊢ R) :
    A ⊢ iprop(B -∗ C -∗ D -∗ E -∗ G -∗ R) := by
  iintro HA HB HC HD HE
  iapply (cur5 (show iprop(A ∗ B ∗ C ∗ D ∗ E) ⊢ iprop(G -∗ R) from ?_)) $$ HA HB HC HD HE
  iintro ⟨HA, HB, HC, HD, HE⟩ HG
  iapply h
  isplitl [HA]; · iexact HA
  isplitl [HB]; · iexact HB
  isplitl [HC]; · iexact HC
  isplitl [HD]; · iexact HD
  isplitl [HE]; · iexact HE
  iexact HG

/-- Everything a device starts with. -/
def Ready (c : Dev nD) : sProp 𝕄 :=
  iprop((cred (tallyAt (barCell c) () 7) ∗ at0 (barCell c)) ∗ (TokRs c ∗ TokAg c) ∗ TSig c 0 ∗ TW I 1 pA c 0 ∗ TW I 3 pA c 0
    ∗ (anyC c (peer 0 c) ∗ anyC c (peer 1 c)) ∗ (anyC c (peer 2 c) ∗ anyC c (peer 3 c)) ∗ (anyC c (peer 4 c) ∗ anyC c (peer 5 c))
    ∗ (anyC c c ∗ anyC c (peer 6 c)) ∗ some' c nearM ∗ (some' c (resC c 0) ∗ some' c (resC c 1))
    ∗ (some' c (outB c 0) ∗ some' c (outB c 1)) ∗ TOut I c 0 ∗ Held I c)

/-- Everything it ends with. -/
def Done (c : Dev nD) : sProp 𝕄 :=
  iprop(semVal (barCell c) 0 ∗ TW I 0 pS c 14 ∗ TW I 1 pA c 14 ∗ TW I 2 pA c 14 ∗ TW I 3 pA c 14
    ∗ partC I c c ∗ owns (c : Thread nD τ) nearM fullShare (I.nearS c c)
    ∗ (owns (c : Thread nD τ) (outB c 0) fullShare (I.ownv c 0) ∗ owns (c : Thread nD τ) (outB c 1) fullShare (I.ownv c 1))
    ∗ TOut I c 14 ∗ Held I c)

theorem TW0_of (c : Dev nD) : TRs (F := F) c 14 ⊢ TW I 0 pS c 0 := by
  unfold TRs TW
  exact (Tbl_end pS _ _ (by decide)).trans (Tbl_start pS _ _)
theorem TW2_of (c : Dev nD) : TAg (F := F) c 14 ⊢ TW I 2 pA c 0 := by
  unfold TAg TW
  exact (Tbl_end pA _ _ (by decide)).trans (Tbl_start pA _ _)

theorem body_run (c : Dev nD) :
    iprop(Env I K ∗ Debt c 0 0 0 ∗ Ready I c) ⊢ WP c (onBufs (cc0_body (F := F))) fun _ => iprop(Debt c 7 14 14 ∗ Done I c) := by
  rw [cc0_body_eq_skeleton]
  unfold onBufs cc0_body_skel Ready Done
  iintro ⟨#HE, HO, Hb, Htok, HS, H1, H3, HA, HB, HC, HD, HN, ⟨HR0, HR1⟩, ⟨HW0, HW1⟩, HU, HH⟩
  iapply (st_part0 c (p1 c))
  iintro %r %hr
  obtain ⟨d0, v20, v24, v26, v29, v34, v35, v36⟩ := r
  dsimp only at hr
  subst hr
  dsimp only
  iapply (st_part0 d0 (p2 d0 _ _ _ _ _ _))
  iintro %r -
  obtain ⟨v39, v47, v52, v60, v65, v66, v67, v68, v73, w⟩ := r
  dsimp only
  iapply (st_part0 d0 (p3 d0 _ _ _ _ _ _ _))
  iintro %r -
  obtain ⟨v78, v86, v91, v99, v104, v105, v106, v107, v110⟩ := r
  dsimp only
  iapply (cur3 (st_part d0 (p4 I K d0 _ _ _ _ _ _ _ _ _ _ _ _ _))) $$ HE HO HS
  iintro %r ⟨%hr, HO, HS⟩
  obtain ⟨v112, v117, v122, v123⟩ := r
  dsimp only at hr
  subst hr
  dsimp only
  iapply (cur4 (st_part d0 (p5 I K d0 _ _))) $$ HE HO HS HH
  iintro %r ⟨%hr, HO, HS, HH⟩
  obtain ⟨v, rfl⟩ := hr
  dsimp only
  icases HA with ⟨HA, HA'⟩
  iapply (cur6 (st_part d0 (p6 I K d0 _ _ _ _))) $$ HE HO Hb Htok HA HA'
  iintro %r ⟨HO, Hz, HT, HG, HA, HA'⟩
  iapply (cur6 (st_part d0 (p7 I K d0 _ _ _ _ _))) $$ HE HO HT HA HA' HH
  iintro %r ⟨%hr, HO, HT, HH⟩
  obtain ⟨v', rfl⟩ := hr
  dsimp only
  iapply (cur5 (st_part d0 (p8 I K d0 _ _ _))) $$ HE HO HT HB HH
  iintro %r ⟨HO, HT, ⟨HB, HB', HB''⟩, HH⟩
  iapply (cur6 (st_part d0 (p9 I K d0 _ _ _ _ _ _ _))) $$ HE HO HT HB HB' HB''
  iintro %r ⟨HO, HT⟩
  iapply (cur2 (st_part d0 (p10 I d0 _))) $$ HC HH
  iintro %r ⟨%hr, HC, HH⟩
  obtain ⟨v'', rfl⟩ := hr
  dsimp only
  icases HC with ⟨HC, HC'⟩
  iapply (cur5 (st_part d0 (p11 I K d0 _ _ _ _ _))) $$ HE HO HT HC HC'
  iintro %r ⟨HO, HT, HC⟩
  iapply (cur5 (st_part d0 (p12 I K d0 _ _ _))) $$ HE HO HT HC HH
  iintro %r ⟨%hr, HO, HT, HH⟩
  obtain ⟨v3, rfl⟩ := hr
  dsimp only
  iapply (cur6 (st_part d0 (p13 I K d0 _ _ _))) $$ HE HO HT HN HD HH
  iintro %r ⟨HO, HT, HN, HP, HD, HH⟩
  iapply (cur6 (st_part d0 (p14 I K d0 _ _ _ _))) $$ HE HO HT HD HN H1
  iintro %r ⟨%hr, HO, HT, HN, H1⟩
  subst hr
  ihave HT := (TW0_of I d0) $$ HT
  iapply (cur3 (st_part d0 (p15 I K d0 _ _ _ _))) $$ HE HO H1
  iintro %r ⟨%hr, HO, H1⟩
  subst hr
  iapply (cur5 (st_part d0 (p16 I K d0 _ _ _ _ _))) $$ HE HO H1 HR0 HW0
  iintro %r ⟨HO, H1, HA, HW0⟩
  iapply (cur4 (st_part d0 (p17 I K d0 _ _ _ _ _))) $$ HE HO HG HA
  iintro %r ⟨HO, HG, HA⟩
  iapply (cur4 (st_part d0 (p18 I K d0 _ _ _ _ _))) $$ HE HO HG HA
  iintro %r ⟨HO, HG, HA⟩
  obtain ⟨v614, w614⟩ := r
  dsimp only
  iapply (cur6 (st_part d0 (p19 I K d0 _ _ _ _ _))) $$ HE HO HG HA HN H1
  iintro %r ⟨%hr, HO, HG, HA, HN, H1⟩
  subst hr
  dsimp only
  iapply (cur3 (st_part d0 (p20 I K d0 _ _ _ _ _))) $$ HE HO H1
  iintro %r ⟨%hr, HO, H1⟩
  subst hr
  dsimp only
  iapply (cur5 (st_part d0 (p21 I K d0 _ _ _ _ _ _ _))) $$ HE HO H1 HR1 HW1
  iintro %r ⟨HO, H1, HB, HW1⟩
  iapply (cur4 (st_part d0 (p22 I K d0 _ _ _ _))) $$ HE HO HG HB
  iintro %r ⟨HO, HG, HB⟩
  iapply (cur4 (st_part d0 (p23 I K d0 _ _ _ _ _))) $$ HE HO HG HB
  iintro %r ⟨HO, HG, HB⟩
  iapply (cur6 (st_part d0 (p24 I K d0 _ _ _ _ _ _ _))) $$ HE HO HG HB H3 HU
  iintro %r ⟨HO, HG, HB⟩
  ihave HG := (TW2_of I d0) $$ HG
  iapply (cur2 (st_part d0 (p25 I K d0 _ _ _ _ _ _ _))) $$ HE HO
  iintro %r HO
  iapply (cur2 (st_part d0 (p26 I K d0 _ _ _ _ _ _ _))) $$ HE HO
  iintro %r ⟨%hr, HO⟩
  subst hr
  iapply (cur2 (st_part d0 (p27 I K d0 _ _ _ _ _ _ _))) $$ HE HO
  iintro %r HO
  iapply (cur2 (st_part d0 (p28 I K d0 _ _ _ _ _ _))) $$ HE HO
  iintro %r HO
  obtain ⟨v929, v931, w4⟩ := r
  dsimp only
  iapply (cur2 (st_part d0 (p29 I K d0 _ _ _ _ _ _ _ _ _ _))) $$ HE HO
  iintro %r HO
  iapply (cur2 (st_part d0 (p30 I K d0 _ _ _ _ _ _ _ _))) $$ HE HO
  iintro %r HO
  obtain ⟨v998, w5⟩ := r
  dsimp only
  iapply (cur2 (st_part d0 (p31 I K d0 _ _ _ _ _ _ _ _))) $$ HE HO
  iintro %r ⟨%hr, HO⟩
  obtain ⟨v6, rfl⟩ := hr
  dsimp only
  iapply (cur2 (st_part d0 (p32 I K d0 _ _ _ _ _ _ _ _))) $$ HE HO
  iintro %r HO
  iapply (cur2 (st_part d0 (p33 I K d0 _ _ _ _ _ _))) $$ HE HO
  iintro %r HO
  obtain ⟨v1097, v1099⟩ := r
  dsimp only
  iapply (cur3 (st_part d0 (p34 I K d0 _ _ _))) $$ HE HO HT
  iintro %r ⟨HO, H3, HU, HT⟩
  iapply (cur3 (st_part d0 (p35 I K d0))) $$ HE HO HT
  iintro %r ⟨HO, HT⟩
  iapply (cur4 (st_part d0 (p36 I K d0))) $$ HE HO HT HG
  iintro %r ⟨HO, HT, HG⟩
  iapply (cur3 (st_part d0 (p37 I K d0))) $$ HE HO HG
  iintro %r ⟨HO, HG⟩
  iapply (cur3 (st_part d0 (p38 I K d0))) $$ HE HO HG
  iintro %r ⟨HO, HG⟩
  simp only [Prog.lift, Prog.bind_op, Prog.bind_ret, Prog.pure_eq_ret]
  iapply (cur3 (st_sent I K 2 pA pA_inj d0 (6, 1) 13 rfl rfl)) $$ HE HO HG
  iintro ⟨HO, HG⟩
  iapply (st_ret d0)
  isplitl [HO]; · iexact HO
  isplitl [Hz]; · iexact Hz
  isplitl [HT]; · iexact HT
  isplitl [H1]; · iexact H1
  isplitl [HG]; · iexact HG
  isplitl [H3]; · iexact H3
  isplitl [HP]; · iexact HP
  isplitl [HN]; · iexact HN
  isplitl [HW0 HW1]
  · isplitl [HW0]; · iexact HW0
    iexact HW1
  isplitl [HU]; · iexact HU
  iexact HH

end Cert.Scatter
-- ==== Proof.Split.lean ====
/-
# Buffers in pieces

Before the program runs, each buffer is cut into the pieces that the schedule hands around; after it, the pieces make up
the buffers again.
-/
module

public import proofs.«01_k».proof.Proof.Body

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F) (K : Dev nD × CIx → ℕ)

/-! ## All devices: a device and its seven peers -/

/-- A device or one of the peers of `c`. -/
def mate (c : Dev nD) : Option (Fin 7) → Dev nD := fun o => o.elim c fun r => peer r c

theorem mate_bij (c : Dev nD) : Function.Bijective (mate c) := by
  constructor
  · rintro (_ | r) (_ | r') h
    · rfl
    · exact absurd h.symm (peer_ne r' c)
    · exact absurd h (peer_ne r c)
    · exact congrArg some (peer_inj c r r' h)
  · intro d
    rcases eq_or_peer c d with rfl | ⟨r, rfl⟩
    · exact ⟨none, rfl⟩
    · exact ⟨some r, rfl⟩

def mates (c : Dev nD) : Fin 7 ⊕ Unit ≃ Dev nD := (Equiv.optionEquivSumPUnit (Fin 7)).symm.trans (Equiv.ofBijective (mate c) (mate_bij c))

theorem bigSep_mates (c : Dev nD) (Φ : Dev nD → sProp (MT nD τ sig Unit (Elt F) ℕ UU ℕ)) :
    bigSep Finset.univ Φ = iprop((bigSep Finset.univ fun r : Fin 7 => Φ (peer r c)) ∗ Φ c) := by
  rw [bigSep_univ_equiv (mates c) Φ, bigSep_univ_sum]
  congr 1
  exact bigSep_singleton ..

/-- The pieces of all devices: those of the device itself, and those of its peers. -/
theorem bigSep_pieces (c : Dev nD) (Φ : Dev nD → Fin 2 → sProp (MT nD τ sig Unit (Elt F) ℕ UU ℕ)) :
    (bigSep Finset.univ fun t : Dev nD × Fin 2 => Φ t.1 t.2)
      = iprop((bigSep Finset.univ fun t : Fin 7 × Fin 2 => Φ (peer t.1 c) t.2) ∗ (Φ c 0 ∗ Φ c 1)) := by
  rw [bigSep_univ_prod, bigSep_mates c, bigSep_univ_prod, bigSep_fin_two]; rfl

/-! ## The buffers before the run -/

theorem cut_any (c : Dev nD) {T : Type} [Fintype T] [DecidableEq T] {sh : Shape} {e : EltTy} (m : Memref sig .tc .vmem sh e)
    (r : T → Rect sh) (hr : ∀ t a, (r t).stride a = 1) (hd : ∀ t t', t ≠ t' → Disjoint (r t).set (r t').set)
    (hcov : Finset.univ.biUnion (fun t => (r t).set) = Finset.univ) :
    some' (F := F) c m ⊢ bigSep Finset.univ (fun t => some' (F := F) c (m.slice (r t) (hr t))) := by
  iintro ⟨%X, H⟩
  ihave H := (owns_rects (c : Thread nD τ) m fullShare r hr hd hcov X) $$ H
  iapply (show bigSep Finset.univ (fun t => owns (c : Thread nD τ) (m.slice (r t) (hr t)) fullShare (fun j => X ((r t).emb j)))
    ⊢ bigSep Finset.univ (fun t => some' (F := F) c (m.slice (r t) (hr t))) from bigSep_mono fun t _ => some_intro c _ _)
  iexact H

theorem cut_send (c : Dev nD) : some' (F := F) c sendM
    ⊢ iprop((anyC c (peer 0 c) ∗ anyC c (peer 1 c)) ∗ (anyC c (peer 2 c) ∗ anyC c (peer 3 c)) ∗ (anyC c (peer 4 c) ∗ anyC c (peer 5 c))
      ∗ (anyC c c ∗ anyC c (peer 6 c))) := by
  refine (cut_any c sendM cR (fun _ _ => rfl) cR_disj cR_cov).trans ?_
  have h : (bigSep Finset.univ fun t : Dev nD × Fin 2 => some' (F := F) c (sendM.slice (cR t) (fun _ => rfl)))
      = iprop((bigSep Finset.univ fun r : Fin 7 => anyC (F := F) c (peer r c)) ∗ anyC c c) := by
    rw [bigSep_univ_prod]; exact bigSep_mates c fun d => anyC (F := F) c d
  rw [h, bigSep_seven]
  iintro ⟨⟨H0, H1, H2, H3, H4, H5, H6⟩, H⟩
  isplitl [H0 H1]
  · isplitl [H0]; · iexact H0
    iexact H1
  isplitl [H2 H3]
  · isplitl [H2]; · iexact H2
    iexact H3
  isplitl [H4 H5]
  · isplitl [H4]; · iexact H4
    iexact H5
  isplitl [H]; · iexact H
  iexact H6

/-- The rooms for all peers, and the device's own chunks of the buffer of results. -/
theorem cut_rooms (c : Dev nD) : iprop(some' (F := F) c landM ∗ some' (F := F) c resM)
    ⊢ iprop((bigSep Finset.univ fun r => room (F := F) c r) ∗ (some' c (resC c 0) ∗ some' c (resC c 1))) := by
  iintro ⟨HL, HR⟩
  ihave HL := (cut_any c landM sR (fun _ _ => rfl) sR_disj sR_cov) $$ HL
  ihave HR := (cut_any c resM cR (fun _ _ => rfl) cR_disj cR_cov) $$ HR
  have h1 : (bigSep Finset.univ fun t : Fin 2 × Fin 7 => some' (F := F) c (landM.slice (sR t) (fun _ => rfl)))
      = bigSep Finset.univ fun r : Fin 7 => bigSep Finset.univ fun h : Fin 2 => some' (F := F) c (landS h r) := by
    rw [bigSep_univ_equiv (Equiv.prodComm (Fin 7) (Fin 2)), bigSep_univ_prod]; rfl
  have h2 : (bigSep Finset.univ fun t : Dev nD × Fin 2 => some' (F := F) c (resM.slice (cR t) (fun _ => rfl)))
      = iprop((bigSep Finset.univ fun r : Fin 7 => bigSep Finset.univ fun h : Fin 2 => some' (F := F) c (resC (peer r c) h)) ∗ (some' c (resC c 0) ∗ some' c (resC c 1))) := by
    rw [← bigSep_univ_prod (fun t : Fin 7 × Fin 2 => some' (F := F) c (resC (peer t.1 c) t.2))]
    exact bigSep_pieces c fun d h => some' (F := F) c (resC d h)
  ihave HL := (Entails.of_eq h1) $$ HL
  ihave HR := (Entails.of_eq h2) $$ HR
  icases HR with ⟨HR, H0⟩
  isplitl [HL HR]
  · iapply (show iprop((bigSep Finset.univ fun r : Fin 7 => bigSep Finset.univ fun h : Fin 2 => some' (F := F) c (landS h r))
      ∗ bigSep Finset.univ fun r : Fin 7 => bigSep Finset.univ fun h : Fin 2 => some' (F := F) c (resC (peer r c) h))
        ⊢ bigSep Finset.univ fun r => room (F := F) c r from Entails.of_eq (by unfold room; rw [bigSep_sep']))
    isplitl [HL]; · iexact HL
    iexact HR
  iexact H0

theorem cut_out (c : Dev nD) : some' (F := F) c oM ⊢ iprop(TOut I c 0 ∗ (some' c (outB c 0) ∗ some' c (outB c 1))) := by
  refine (cut_any c oM oR (fun _ _ => rfl) oR_disj oR_cov).trans ?_
  refine (Entails.of_eq (bigSep_pieces c fun d h => some' (F := F) c (outB d h))).trans ?_
  refine Laws.sep_mono_left ?_
  unfold TOut
  exact Tbl_start pA _ _

/-! ## The buffers after the run -/

theorem whole_any (c : Dev nD) (b : Ref sig .tc) :
    (iprop(∃ f : Buf (Elt F) ((c : Thread nD τ).loc b), ((c : Thread nD τ).loc b) ↦{fullShare} f) : sProp 𝕄)
      ⊢ iprop(∃ X, owns (c : Thread nD τ) (Memref.whole b) fullShare X) := by
  iintro ⟨%f, H⟩
  iexists f
  iapply (Entails.of_eq (owns_whole (c : Thread nD τ) b fullShare f).symm)
  iexact H
theorem any_whole (c : Dev nD) (b : Ref sig .tc) :
    iprop(∃ X, owns (c : Thread nD τ) (Memref.whole b) fullShare X)
      ⊢ (iprop(∃ f : Buf (Elt F) ((c : Thread nD τ).loc b), ((c : Thread nD τ).loc b) ↦{fullShare} f) : sProp 𝕄) := by
  iintro ⟨%f, H⟩
  iexists f
  iapply (Entails.of_eq (owns_whole (c : Thread nD τ) b fullShare f))
  iexact H

/-- The counters of an array of transfer semaphores, and what they paid out. -/
theorem TW_end (a : Fin 4) (p : Fin 7 × Fin 2 → ℕ) (c : Dev nD) (hp : ∀ t, p t < 14) :
    TW I a p c 14 ⊢ iprop((bigSep Finset.univ fun t : Fin 7 × Fin 2 => semVal (dCell a c t.2 t.1) 0)
      ∗ bigSep Finset.univ fun t : Fin 7 × Fin 2 => chunkPay I a c t.2 t.1) := by
  unfold TW
  refine (Tbl_end p _ _ hp).trans ?_
  unfold WPost
  rw [bigSep_sep']

theorem join_send (c : Dev nD) : iprop((bigSep Finset.univ fun t : Fin 7 × Fin 2 => chunkPay I 0 c t.2 t.1) ∗ partC I c c) ⊢ some' (F := F) c sendM := by
  refine BIBase.Entails.trans ?_ (some_whole c sendM cR (fun _ _ => rfl) cR_disj cR_cov)
  refine BIBase.Entails.trans ?_ (Entails.of_eq (bigSep_pieces c fun d h => some' (F := F) c (sendC d h)).symm)
  have hp : partC I c c = iprop(owns (c : Thread nD τ) (sendC c 0) fullShare (I.part c c 0) ∗ owns (c : Thread nD τ) (sendC c 1) fullShare (I.part c c 1)) := by
    unfold partC; exact bigSep_fin_two _
  rw [hp]
  iintro ⟨H, H0, H1⟩
  isplitl [H]
  · iapply (show (bigSep Finset.univ fun t : Fin 7 × Fin 2 => chunkPay I 0 c t.2 t.1) ⊢ bigSep Finset.univ fun t : Fin 7 × Fin 2 => some' (F := F) c (sendC (peer t.1 c) t.2) from
      bigSep_mono fun t _ => some_intro c _ (I.part c (peer t.1 c) t.2))
    iexact H
  isplitl [H0]
  · iapply (some_intro c (sendC c 0) _); iexact H0
  · iapply (some_intro c (sendC c 1) _); iexact H1

theorem join_land (c : Dev nD) : (bigSep Finset.univ fun t : Fin 7 × Fin 2 => chunkPay I 1 c t.2 t.1) ⊢ some' (F := F) c landM := by
  refine BIBase.Entails.trans ?_ (some_whole c landM sR (fun _ _ => rfl) sR_disj sR_cov)
  refine (bigSep_mono (Ψ := fun t : Fin 7 × Fin 2 => some' (F := F) c (landS t.2 t.1)) fun t _ => some_intro c _ (I.part (peer t.1 c) c t.2)).trans ?_
  exact Entails.of_eq (bigSep_univ_equiv (Equiv.prodComm (Fin 2) (Fin 7)) (fun t : Fin 7 × Fin 2 => some' (F := F) c (landS t.2 t.1)))

/-- The seven shares of a chunk make up the chunk. -/
theorem join_own (c : Dev nD) : (bigSep Finset.univ fun t : Fin 7 × Fin 2 => chunkPay I 2 c t.2 t.1) ⊢ iprop(some' (F := F) c (resC c 0) ∗ some' (F := F) c (resC c 1)) := by
  rw [bigSep_univ_equiv (Equiv.prodComm (Fin 2) (Fin 7)), bigSep_univ_prod, bigSep_fin_two]
  have h (h : Fin 2) : (bigSep Finset.univ fun r : Fin 7 => chunkPay I 2 c h r) ⊢ some' (F := F) c (resC c h) :=
    ((owns_shares c (resC c h) (I.resv c h)).2).trans (some_intro c _ _)
  exact BIClass.sep_mono (h 0) (h 1)

theorem join_res (c : Dev nD) :
    iprop((bigSep Finset.univ fun t : Fin 7 × Fin 2 => chunkPay I 3 c t.2 t.1) ∗ (bigSep Finset.univ fun t : Fin 7 × Fin 2 => chunkPay I 2 c t.2 t.1)) ⊢ some' (F := F) c resM := by
  refine BIBase.Entails.trans ?_ (some_whole c resM cR (fun _ _ => rfl) cR_disj cR_cov)
  refine BIBase.Entails.trans ?_ (Entails.of_eq (bigSep_pieces c fun d h => some' (F := F) c (resC d h)).symm)
  exact BIClass.sep_mono (bigSep_mono fun t _ => some_intro c (resC (peer t.1 c) t.2) (I.resv (peer t.1 c) t.2)) (join_own I c)

/-! ## The result -/

theorem mem_rect {s : Shape} {off size : Fin s.rank → ℕ} {inb : ∀ a, off a + size a ≤ s.size a} {i : s.Idx} :
    i ∈ (Rect.unit (s := s) off size inb).set ↔ ∃ j, (Rect.unit (s := s) off size inb).emb j = i := by
  rw [Rect.mem_set_unit]
  constructor
  · intro h
    refine ⟨fun a => ⟨(i a).val - off a, ?_⟩, ?_⟩
    · have := h a; show (i a).val - off a < size a; omega
    · funext a; apply Fin.ext
      show off a + 1 * ((i a).val - off a) = (i a).val
      have := h a; omega
  · rintro ⟨j, rfl⟩ a
    have : (j a).val < size a := (j a).isLt
    show off a ≤ off a + 1 * (j a).val ∧ off a + 1 * (j a).val < off a + size a
    omega

/-- Every entry of the result lies in one block. -/
theorem out_at (i : S4x512x256.Idx) : ∃ p : (Dev nD × Fin 2) × S1x128x256.Idx, (oR p.1).emb p.2 = i := by
  obtain ⟨t, _, ht⟩ := Finset.mem_biUnion.mp (oR_cov ▸ Finset.mem_univ i)
  obtain ⟨j, hj⟩ := mem_rect.mp ht
  exact ⟨(t, j), hj⟩

/-- The result of device `c`. -/
def outAt (c : Dev nD) : Vec F S4x512x256 .f32 := fun i => I.outv c (out_at i).choose.1.1 (out_at i).choose.1.2 (out_at i).choose.2

theorem outAt_emb (c : Dev nD) (t : Dev nD × Fin 2) (j : S1x128x256.Idx) : outAt I c ((oR t).emb j) = I.outv c t.1 t.2 j := by
  have h := (out_at ((oR t).emb j)).choose_spec
  unfold outAt
  generalize (out_at ((oR t).emb j)).choose = p at h ⊢
  have ht : p.1 = t := by
    by_contra hn
    exact Finset.disjoint_left.mp (oR_disj p.1 t hn) (mem_rect.mpr ⟨p.2, h⟩) (mem_rect.mpr ⟨j, rfl⟩)
  obtain ⟨t', j'⟩ := p
  obtain rfl : t' = t := ht
  have hj : j' = j := (oR t').emb.injective h
  rw [hj]

theorem join_out (c : Dev nD) :
    iprop(TOut I c 14 ∗ (owns (c : Thread nD τ) (outB c 0) fullShare (I.ownv c 0) ∗ owns (c : Thread nD τ) (outB c 1) fullShare (I.ownv c 1)))
      ⊢ (owns (c : Thread nD τ) oM fullShare (outAt I c) : sProp 𝕄) := by
  refine BIBase.Entails.trans ?_ (owns_of_rects (c : Thread nD τ) oM fullShare oR (fun _ _ => rfl) oR_disj oR_cov (outAt I c))
  have he : (bigSep Finset.univ fun t : Dev nD × Fin 2 => (owns (c : Thread nD τ) (oM.slice (oR t) (fun _ => rfl)) fullShare (fun j => outAt I c ((oR t).emb j)) : sProp 𝕄))
      = bigSep Finset.univ fun t : Dev nD × Fin 2 => owns (c : Thread nD τ) (outB t.1 t.2) fullShare (I.outv c t.1 t.2) :=
    bigSep_congr fun t _ => by rw [show (fun j => outAt I c ((oR t).emb j)) = I.outv c t.1 t.2 from funext fun j => outAt_emb I c t j]
  rw [he, bigSep_pieces c fun d h => (owns (c : Thread nD τ) (outB d h) fullShare (I.outv c d h) : sProp 𝕄)]
  have hown (h : Fin 2) : I.outv c c h = I.ownv c h := by unfold Ins.outv; exact if_pos rfl
  rw [hown, hown]
  refine Laws.sep_mono_left ?_
  unfold TOut
  exact Tbl_end pA _ _ (by decide)

end Cert.Scatter
-- ==== Proof.Deal.lean ====
/-
# Dealing out the tokens

At launch each device holds the tokens of its own cells. They are dealt to the devices that pay into those cells; and
what all devices owe to a cell is the credit that its owner starts with.
-/
module

public import proofs.«01_k».proof.Proof.Split
public import Idealize.ShloMosaic.Lib.Pipeline.Launch
public import Idealize.ShloMosaic.Lib.Pipeline.Kit

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## Cells and tokens -/

theorem csem_inj : Function.Injective csem := by
  rintro (_ | x) (_ | y) h
  · rfl
  · exact absurd h.symm (osem_ne_bar y)
  · exact absurd h (osem_ne_bar x)
  · exact congrArg Sum.inr (ownSemFacts.inj h)

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The cells of all devices. -/
def allCells : Finset (GSem nD τ sig) := Finset.univ.map ⟨kcell, kcell_inj⟩

/-- The duties of a device's cells: seven of its barrier's, one of each transfer's. -/
abbrev TIx : Type := Fin 7 ⊕ (Fin 4 × Fin 2 × Fin 7)
abbrev tokOf (p : Dev nD × TIx) : GSem nD τ sig × ℕ × Fin 7 :=
  p.2.elim (fun r => (barCell p.1, 0, r)) (fun x => (kcell (p.1, .inr x), 0, 0))

theorem tokOf_inj : Function.Injective tokOf := by
  rintro ⟨c, r | x⟩ ⟨c', r' | x'⟩ h
  · have h1 : c = c' := congrArg (fun g : GSem nD τ sig × ℕ × Fin 7 => g.1.1.1) h
    have h2 : r = r' := congrArg (fun g : GSem nD τ sig × ℕ × Fin 7 => g.2.2) h
    rw [h1, h2]
  · exact absurd (congrArg (fun g : GSem nD τ sig × ℕ × Fin 7 => g.1.2) h).symm (osem_ne_bar x')
  · exact absurd (congrArg (fun g : GSem nD τ sig × ℕ × Fin 7 => g.1.2) h) (osem_ne_bar x)
  · have h1 : (c, (Sum.inr x : CIx)) = (c', .inr x') := kcell_inj (congrArg Prod.fst h)
    injection h1 with h1 h2
    injection h2 with h2
    rw [h1, h2]

def allToks : Finset (GSem nD τ sig × ℕ × Fin 7) := Finset.univ.map ⟨tokOf, tokOf_inj⟩

/-! ## Sums over the four arrays -/

/-- What each transfer cell of an array has, over the array. -/
def arr (Ψ : Fin 4 → Fin 2 → Fin 7 → sProp (MT nD τ sig Unit (Elt F) ℕ UU ℕ)) (a : Fin 4) : sProp 𝕄 :=
  bigSep Finset.univ fun t : Fin 7 × Fin 2 => Ψ a t.2 t.1

theorem bigSep_arr (Ψ : Fin 4 → Fin 2 → Fin 7 → sProp (MT nD τ sig Unit (Elt F) ℕ UU ℕ)) :
    (bigSep Finset.univ fun x : Fin 4 × Fin 2 × Fin 7 => Ψ x.1 x.2.1 x.2.2) = iprop(arr Ψ 0 ∗ arr Ψ 1 ∗ arr Ψ 2 ∗ arr Ψ 3) := by
  rw [bigSep_univ_prod]
  have h (a : Fin 4) : (bigSep Finset.univ fun y : Fin 2 × Fin 7 => Ψ a y.1 y.2) = arr Ψ a :=
    bigSep_univ_equiv (Equiv.prodComm (Fin 7) (Fin 2)) _
  rw [bigSep_congr (Ψ := fun a => arr Ψ a) fun a _ => h a]
  exact bigSep_univ_eq_bigSepL [0, 1, 2, 3] (by decide) (by decide) _

/-- Over the cells of one device: its barrier's and the four arrays'. -/
theorem bigSep_cells (Φ : CIx → sProp (MT nD τ sig Unit (Elt F) ℕ UU ℕ)) :
    bigSep Finset.univ Φ = iprop(Φ (.inl ()) ∗ arr (fun a h r => Φ (.inr (a, h, r))) 0 ∗ arr (fun a h r => Φ (.inr (a, h, r))) 1
      ∗ arr (fun a h r => Φ (.inr (a, h, r))) 2 ∗ arr (fun a h r => Φ (.inr (a, h, r))) 3) := by
  rw [bigSep_univ_sum, ← bigSep_arr]
  congr 1
  exact bigSep_singleton ..

/-- What each device has for its peers is what each device's peers have for it. -/
theorem bigSep_around {T : Type} [Fintype T] [DecidableEq T] (g : T → Fin 7) (Φ : Dev nD → T → sProp (MT nD τ sig Unit (Elt F) ℕ UU ℕ)) :
    (bigSep Finset.univ fun c => bigSep Finset.univ fun t => Φ c t) = bigSep Finset.univ fun c => bigSep Finset.univ fun t => Φ (peer (g t) c) t := by
  let e : Dev nD × T ≃ Dev nD × T :=
    ⟨fun p => (peer (g p.2) p.1, p.2), fun p => (peer (g p.2) p.1, p.2), fun p => by simp only [peer_peer], fun p => by simp only [peer_peer]⟩
  rw [← bigSep_univ_prod (fun p : Dev nD × T => Φ p.1 p.2), bigSep_univ_equiv e, bigSep_univ_prod]; rfl

/-! ## The deal -/

/-- The tokens of the device's own cells. -/
def toks (c : Dev nD) : sProp 𝕄 :=
  iprop((bigSep Finset.univ fun r : Fin 7 => dutyTok ER (barCell c) 0 r)
    ∗ arr (fun a h r => dutyTok ER (dCell a c h r) 0 0) 0 ∗ arr (fun a h r => dutyTok ER (dCell a c h r) 0 0) 1
    ∗ arr (fun a h r => dutyTok ER (dCell a c h r) 0 0) 2 ∗ arr (fun a h r => dutyTok ER (dCell a c h r) 0 0) 3)

/-- The tokens of the duties that the device pays. -/
def payToks (c : Dev nD) : sProp 𝕄 :=
  iprop((bigSep Finset.univ fun r : Fin 7 => dutyTok ER (barCell (peer r c)) 0 r)
    ∗ arr (fun a h r => dutyTok ER (dCell a c h r) 0 0) 0 ∗ arr (fun a h r => dutyTok ER (dCell a (peer r c) h r) 0 0) 1
    ∗ arr (fun a h r => dutyTok ER (dCell a c h r) 0 0) 2 ∗ arr (fun a h r => dutyTok ER (dCell a (peer r c) h r) 0 0) 3)

theorem toks_around : (bigSep Finset.univ fun c : Dev nD => toks (F := F) c) ⊢ bigSep Finset.univ fun c : Dev nD => payToks (F := F) c := by
  unfold toks payToks
  simp only [bigSep_sep']
  unfold arr
  rw [bigSep_around (fun r : Fin 7 => r) (fun c r => dutyTok ER (barCell c) 0 r),
    bigSep_around (fun t : Fin 7 × Fin 2 => t.1) (fun c t => dutyTok ER (dCell 1 c t.2 t.1) 0 0),
    bigSep_around (fun t : Fin 7 × Fin 2 => t.1) (fun c t => dutyTok ER (dCell 3 c t.2 t.1) 0 0)]

/-- Where a device stands at its own cells. -/
def stand (c : Dev nD) : sProp 𝕄 :=
  iprop(at0 (barCell c) ∗ arr (fun a h r => at0 (dCell a c h r)) 0 ∗ arr (fun a h r => at0 (dCell a c h r)) 1
    ∗ arr (fun a h r => at0 (dCell a c h r)) 2 ∗ arr (fun a h r => at0 (dCell a c h r)) 3)

theorem stand_eq (c : Dev nD) : (bigSep Finset.univ fun k : CIx => at0 (F := F) (kcell (c, k))) = stand c := bigSep_cells _

/-! ## The credit at launch -/

theorem sumFrom_all {T : Type} [Fintype T] (p : T → ℕ) (f : T → CellTallies nD τ sig Unit) (g : GSem nD τ sig) (u : Unit) :
    sumFrom p f 0 g u = ∑ t, f t g u := by
  unfold sumFrom
  rw [Finset.sum_apply, Finsupp.finsetSum_apply, Finset.filter_true_of_mem fun t _ => Nat.zero_le _]

/-- What all devices together owe to one cell, if each owes `n` to the cell `κ t` of its peer of step `t`. -/
theorem sum_around {T : Type} [Fintype T] [DecidableEq T] (p : T → ℕ) (q : T → Fin 7) (κ : T → Dev nD → GSem nD τ sig) (n : ℕ) (g : GSem nD τ sig) :
    ∑ d : Dev nD, sumFrom p (fun t => (tallyAt (κ t (peer (q t) d)) () n : CellTallies nD τ sig Unit)) 0 g ()
      = ∑ t, ∑ d : Dev nD, if g = κ t d then n else 0 := by
  simp only [sumFrom_all, tallyAt_apply, and_true]
  rw [Finset.sum_comm]
  exact Finset.sum_congr rfl fun t _ => Equiv.sum_comp (swap (q t)) fun d => if g = κ t d then n else 0

theorem kcell_iff {c d : Dev nD} {k l : CIx} : kcell (c, k) = kcell (d, l) ↔ c = d ∧ k = l :=
  ⟨fun h => by have := kcell_inj h; injection this with h1 h2; exact ⟨h1, h2⟩, fun ⟨h1, h2⟩ => by rw [h1, h2]⟩

/-- The owed amount of all devices at the cell `k` of `c`. -/
theorem owed_sum (c : Dev nD) (k : CIx) :
    ∑ d : Dev nD, owed d 0 0 0 (kcell (c, k)) ()
      = (∑ r : Fin 7, ∑ d : Dev nD, if kcell (c, k) = kcell (d, .inl ()) then 1 else 0)
        + (∑ t : Fin 7 × Fin 2, ∑ d : Dev nD, if kcell (c, k) = kcell (d, .inr (1, t.2, t.1)) then N else 0)
        + ∑ t : Fin 7 × Fin 2, ∑ d : Dev nD, if kcell (c, k) = kcell (d, .inr (3, t.2, t.1)) then N else 0 := by
  unfold owed tBar tRs tAg
  simp only [Pi.add_apply, Finsupp.add_apply, Finset.sum_add_distrib]
  have h1 := sum_around pR (fun r => r) (fun _ d => kcell (d, .inl ())) 1 (kcell (c, k))
  have h2 := sum_around pS (fun t => t.1) (fun t d => kcell (d, .inr (1, t.2, t.1))) N (kcell (c, k))
  have h3 := sum_around pA (fun t => t.1) (fun t d => kcell (d, .inr (3, t.2, t.1))) N (kcell (c, k))
  exact congrArg₂ _ (congrArg₂ _ h1 h2) h3

theorem owed_at_bar (c : Dev nD) : ∑ d : Dev nD, owed d 0 0 0 (barCell c) () = 7 := by
  refine (owed_sum c (.inl ())).trans ?_
  simp only [kcell_iff, reduceCtorEq, and_false, if_false, and_true, Finset.sum_const_zero, Finset.sum_ite_eq, Finset.mem_univ, if_true,
    Finset.sum_const, Finset.card_univ, Fintype.card_fin, smul_eq_mul]
  rfl

theorem sum_one (c : Dev nD) (h : Fin 2) (r : Fin 7) (a b : Fin 4) :
    (∑ t : Fin 7 × Fin 2, ∑ d : Dev nD, if kcell (c, .inr (a, h, r)) = kcell (d, .inr (b, t.2, t.1)) then N else 0) = if a = b then N else 0 := by
  rw [Finset.sum_eq_single (r, h), Finset.sum_eq_single c]
  · by_cases hab : a = b
    · rw [hab, if_pos rfl, if_pos rfl]
    · rw [if_neg hab, if_neg fun hh => hab (Prod.mk.inj (Sum.inr.inj (kcell_iff.mp hh).2)).1]
  · intro d _ hd
    rw [if_neg fun hh => hd (kcell_iff.mp hh).1.symm]
  · exact fun hn => absurd (Finset.mem_univ c) hn
  · rintro ⟨r', h'⟩ _ hn
    refine Finset.sum_eq_zero fun d _ => if_neg fun hh => hn ?_
    have := Sum.inr.inj (kcell_iff.mp hh).2
    simp only [Prod.mk.injEq] at this
    rw [this.2.1, this.2.2]
  · exact fun hn => absurd (Finset.mem_univ _) hn

theorem owed_at_dma (c : Dev nD) (a : Fin 4) (ha : a = 1 ∨ a = 3) (h : Fin 2) (r : Fin 7) : ∑ d : Dev nD, owed d 0 0 0 (dCell a c h r) () = N := by
  refine (owed_sum c (.inr (a, h, r))).trans ?_
  rw [sum_one, sum_one]
  simp only [kcell_iff, reduceCtorEq, and_false, if_false, Finset.sum_const_zero]
  rcases ha with rfl | rfl
  · rw [if_pos rfl, if_neg (by decide), Nat.zero_add, Nat.add_zero]
  · rw [if_pos rfl, if_neg (by decide), Nat.zero_add]

/-- What a device owes at launch. -/
abbrev O₀ (c : Dev nD) : CellTallies nD τ sig Unit := owed c 0 0 0

theorem launch_cell (g : GSem nD τ sig) (n : ℕ) (hn : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, hn]

/-- The credit of a device at launch: that of its barrier and that of the two arrays it receives by. -/
theorem creds (c : Dev nD) : (Pipeline.launchCred O₀ c : sProp 𝕄)
    ⊢ iprop(cred (tallyAt (barCell c) () 7) ∗ arr (fun a h r => cred (tallyAt (dCell a c h r) () N)) 1
      ∗ arr (fun a h r => cred (tallyAt (dCell a c h r) () N)) 3) := by
  unfold Pipeline.launchCred
  refine (bigSep_subset (Finset.subset_univ ((Finset.univ : Finset CIx).map ⟨csem, csem_inj⟩))).trans ?_
  rw [bigSep_map, bigSep_cells]
  have hb := launch_cell (barCell c) 7 (owed_at_bar c)
  have hd (a : Fin 4) (ha : a = 1 ∨ a = 3) : (arr (fun a h r => cred (tallyOn (dCell a c h r) (launchCredit (Pipeline.owing O₀) 0 (dCell a c h r)))) a : sProp 𝕄)
      = arr (fun a h r => cred (tallyAt (dCell a c h r) () N)) a :=
    bigSep_congr fun t _ => congrArg cred (launch_cell (dCell a c t.2 t.1) N (owed_at_dma c a ha t.2 t.1))
  refine (show _ ⊢ iprop(cred (tallyOn (barCell c) (launchCredit (Pipeline.owing O₀) 0 (barCell c)))
      ∗ arr (fun a h r => cred (tallyOn (dCell a c h r) (launchCredit (Pipeline.owing O₀) 0 (dCell a c h r)))) 0
      ∗ arr (fun a h r => cred (tallyOn (dCell a c h r) (launchCredit (Pipeline.owing O₀) 0 (dCell a c h r)))) 1
      ∗ arr (fun a h r => cred (tallyOn (dCell a c h r) (launchCredit (Pipeline.owing O₀) 0 (dCell a c h r)))) 2
      ∗ arr (fun a h r => cred (tallyOn (dCell a c h r) (launchCredit (Pipeline.owing O₀) 0 (dCell a c h r)))) 3) from BIBase.Entails.rfl).trans ?_
  rw [hb, hd 1 (.inl rfl), hd 3 (.inr rfl)]
  iintro ⟨H, -, H1, -, H3⟩
  isplitl [H]; · iexact H
  isplitl [H1]; · iexact H1
  iexact H3

end Cert.Scatter
-- ==== Proof.Launch.lean ====
/-
# The run of the whole program

The set-up of the machine for the schedule, the program's run on all devices from it, and what the memory holds at the
end.
-/
module

public import proofs.«01_k».proof.Proof.Deal
public import proofs.«01_k».proof.Proof.Gen.KernelIdeal.Launch
public import proofs.«01_k».proof.Proof.Gen.KernelIdeal.Points
public import Idealize.ShloMosaic.Lib.Pipeline.Value
public import Idealize.ShloMosaic.Lib.Pipeline.CollectiveSegs

@[expose] public section

noncomputable section

namespace Cert.Scatter

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Ready

variable (I : Ins F)

/-- What a device starts with of the schedule. -/
def linear (c : Dev nD) : sProp 𝕄 := iprop(stand c ∗ payToks c)

def creds0 (c : Dev nD) : sProp 𝕄 :=
  iprop(cred (tallyAt (barCell c) () 7) ∗ arr (fun a h r => cred (tallyAt (dCell a c h r) () N)) 1 ∗ arr (fun a h r => cred (tallyAt (dCell a c h r) () N)) 3)

/-- The four scratch buffers, with any contents. -/
def scratches (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- The counters of the kernel's own semaphores, all zero. -/
def zeros (c : Dev nD) : sProp 𝕄 := bigSep Finset.univ fun x : Fin 4 × Fin 2 × Fin 7 => semVal (dCell x.1 c x.2.1 x.2.2) 0

/-- A wait's needs, from the credit and the position. -/
theorem TW_start (a : Fin 4) (c : Dev nD) :
    iprop(arr (fun a h r => cred (tallyAt (dCell a c h r) () N)) a ∗ arr (fun a h r => at0 (dCell a c h r)) a) ⊢ TW I a pA c 0 := by
  unfold TW arr
  rw [← bigSep_sep']
  exact Tbl_start pA _ _

theorem toks2_start (a a' : Fin 4) (c : Dev nD) :
    iprop(arr (fun a h r => dutyTok ER (dCell a c h r) 0 0) a ∗ arr (fun a h r => dutyTok ER (dCell a (peer r c) h r) 0 0) a' ∗ arr (fun a h r => at0 (dCell a c h r)) a)
      ⊢ (bigSep Finset.univ fun t : Fin 7 × Fin 2 => toks2 a a' c t : sProp 𝕄) := by
  unfold arr toks2
  rw [bigSep_sep', bigSep_sep']

/-- All is ready for the program to start. -/
theorem ready (c : Dev nD) : iprop(linear c ∗ creds0 c ∗ scratches c ∗ some' c oM ∗ Held I c) ⊢ Ready I c := by
  unfold linear stand payToks creds0 scratches Ready TokRs TokAg
  iintro ⟨⟨⟨Hab, Ha0, Ha1, Ha2, Ha3⟩, Htb, Ht0, Ht1, Ht2, Ht3⟩, ⟨Hcb, Hc1, Hc3⟩, ⟨Hs, Hl, Hr, Hn⟩, Ho, Hh⟩
  ihave Hs := (whole_any (F := F) c cc0_scratch0) $$ Hs
  ihave Hl := (whole_any (F := F) c cc0_scratch1) $$ Hl
  ihave Hr := (whole_any (F := F) c cc0_scratch2) $$ Hr
  ihave Hn := (whole_any (F := F) c cc0_scratch3) $$ Hn
  ihave Hs := (cut_send (F := F) c) $$ Hs
  ihave Ho := (cut_out I c) $$ Ho
  icases Hs with ⟨Hs0, Hs1, Hs2, Hs3⟩
  icases Ho with ⟨HT, Hown⟩
  ihave Hroom := (cut_rooms (F := F) c) $$ [Hl Hr]
  · isplitl [Hl]; · iexact Hl
    iexact Hr
  icases Hroom with ⟨Hroom, Hres⟩
  isplitl [Hab Hcb]
  · isplitl [Hcb]; · iexact Hcb
    iexact Hab
  isplitl [Ht0 Ht1 Ha0 Ht2 Ht3 Ha2]
  · isplitl [Ht0 Ht1 Ha0]
    · iapply (toks2_start (F := F) 0 1 c)
      isplitl [Ht0]; · iexact Ht0
      isplitl [Ht1]; · iexact Ht1
      iexact Ha0
    · iapply (toks2_start (F := F) 2 3 c)
      isplitl [Ht2]; · iexact Ht2
      isplitl [Ht3]; · iexact Ht3
      iexact Ha2
  isplitl [Htb Hroom]
  · unfold TSig
    iapply (Tbl_start pR (fun r => iprop(dutyTok ER (barCell (peer r c)) 0 r ∗ room (F := F) c r)) (fun _ => iprop(emp)))
    iapply (Entails.of_eq (bigSep_sep' Finset.univ (fun r : Fin 7 => (dutyTok ER (barCell (peer r c)) 0 r : sProp 𝕄)) (fun r => room c r)).symm)
    isplitl [Htb]; · iexact Htb
    iexact Hroom
  isplitl [Hc1 Ha1]
  · iapply (TW_start I 1 c)
    isplitl [Hc1]; · iexact Hc1
    iexact Ha1
  isplitl [Hc3 Ha3]
  · iapply (TW_start I 3 c)
    isplitl [Hc3]; · iexact Hc3
    iexact Ha3
  isplitl [Hs0]; · iexact Hs0
  isplitl [Hs1]; · iexact Hs1
  isplitl [Hs2]; · iexact Hs2
  isplitl [Hs3]; · iexact Hs3
  isplitl [Hn]; · iexact Hn
  isplitl [Hres]; · iexact Hres
  isplitl [Hown]; · iexact Hown
  isplitl [HT]; · iexact HT
  iexact Hh

theorem pS_lt : ∀ t, pS t < 14 := by decide +kernel
theorem pA_lt : ∀ t, pA t < 14 := by decide +kernel

/-- What the program leaves behind. -/
theorem done (c : Dev nD) : Done I c ⊢ iprop(semVal (barCell c) 0 ∗ zeros c ∗ scratches c ∗ owns (c : Thread nD τ) oM fullShare (outAt I c) ∗ Held I c) := by
  unfold Done scratches
  iintro ⟨Hb, HT0, HT1, HT2, HT3, Hp, Hn, Ho, HO, Hh⟩
  ihave HT0 := (TW_end I 0 pS c pS_lt) $$ HT0
  icases HT0 with ⟨Hz0, H0⟩
  ihave HT1 := (TW_end I 1 pA c pA_lt) $$ HT1
  icases HT1 with ⟨Hz1, H1⟩
  ihave HT2 := (TW_end I 2 pA c pA_lt) $$ HT2
  icases HT2 with ⟨Hz2, H2⟩
  ihave HT3 := (TW_end I 3 pA c pA_lt) $$ HT3
  icases HT3 with ⟨Hz3, H3⟩
  isplitl [Hb]; · iexact Hb
  isplitl [Hz0 Hz1 Hz2 Hz3]
  · iapply (show iprop(arr (fun a h r => semVal (dCell a c h r) 0) 0 ∗ arr (fun a h r => semVal (dCell a c h r) 0) 1
      ∗ arr (fun a h r => semVal (dCell a c h r) 0) 2 ∗ arr (fun a h r => semVal (dCell a c h r) 0) 3) ⊢ zeros (F := F) c from
        Entails.of_eq (bigSep_arr (F := F) fun a h r => semVal (dCell a c h r) 0).symm)
    unfold arr
    isplitl [Hz0]; · iexact Hz0
    isplitl [Hz1]; · iexact Hz1
    isplitl [Hz2]; · iexact Hz2
    iexact Hz3
  isplitl [H0 Hp H1 H2 H3 Hn]
  · isplitl [H0 Hp]
    · iapply (any_whole (F := F) c cc0_scratch0)
      iapply (join_send I c)
      isplitl [H0]; · iexact H0
      iexact Hp
    isplitl [H1]
    · iapply (any_whole (F := F) c cc0_scratch1)
      iapply (join_land I c)
      iexact H1
    isplitl [H2 H3]
    · iapply (any_whole (F := F) c cc0_scratch2)
      iapply (join_res I c)
      isplitl [H3]; · iexact H3
      iexact H2
    · iapply (any_whole (F := F) c cc0_scratch3)
      iapply (some_intro (F := F) c nearM (I.nearS c c))
      iexact Hn
  isplitl [HO Ho]
  · iapply (join_out I c)
    isplitl [HO]; · iexact HO
    iexact Ho
  iexact Hh

end Ready

variable (m : (ℓ : Loc nD τ sig) → Buf (Elt F) ℓ) (ρ : Dev nD → PrngReg)

/-- The machine at launch. -/
def s₀ : MemSt nD τ sig (Elt F) := ⟨m, fun _ => 0, ρ⟩

/-- The arguments, as they come to the devices. -/
def insOf : Ins F where
  x c := (win0_0.blk (0 : Fin 1)).view.read (Elt F) ((s₀ m ρ).mem ((c : Thread nD τ).loc main_arg0))
  k c := (win0_1.blk (0 : Fin 1)).view.read (Elt F) ((s₀ m ρ).mem ((c : Thread nD τ).loc main_arg1))
  w c := (win0_2.blk (0 : Fin 1)).view.read (Elt F) ((s₀ m ρ).mem ((c : Thread nD τ).loc main_arg2))

/-! ## The program's run on one device -/

/-- The schedule's invariants of all cells. -/
def records (K : Dev nD × CIx → ℕ) : sProp 𝕄 :=
  bigSep Finset.univ fun ck => iprop(cellInv ER (Rd (insOf m ρ)) (K ck) (kcell ck) ∗ reached ER (kcell ck) 0)

instance records_persistent (K : Dev nD × CIx → ℕ) : BI.Persistent (records m ρ K) := by unfold records; infer_instance

theorem env_intro (K : Dev nD × CIx → ℕ) : iprop(records m ρ K ∗ levAts L lv) ⊢ Env (insOf m ρ) K := by unfold records Env; exact BIBase.Entails.rfl

def G' (c : Dev nD) : sProp 𝕄 := iprop(∃ K, records m ρ K ∗ linear c)

def start (c : Dev nD) : sProp 𝕄 := iprop(G' m ρ c ∗ creds0 c ∗ levAts L lv)

def Φ₀ (c : Dev nD) : sProp 𝕄 := iprop(start m ρ c ∗ scratches c)
def Φ₁ (c : Dev nD) : sProp 𝕄 := iprop(semVal (barCell c) 0 ∗ zeros c ∗ scratches c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (insOf m ρ).x c
    | ⟨1, _⟩ => (insOf m ρ).k c
    | ⟨2, _⟩ => (insOf m ρ).w c
    | ⟨3, _⟩ => outAt (insOf m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-- A staging buffer with given contents. -/
abbrev stg (c : Dev nD) (b : Ref sig .tc) (X : b.ty.Contents (Elt F)) : sProp 𝕄 := owns (c : Thread nD τ) (Memref.whole b) fullShare X

def bodyPre (c : Dev nD) : sProp 𝕄 :=
  iprop(Φ₀ m ρ c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ c ∗ (dats m ρ 0 c).owesAt () t0_0.succ ∗ stg c cc0_stg0_0 ((insOf m ρ).x c) ∗ stg c cc0_stg1_0 ((insOf m ρ).k c)
    ∗ stg c cc0_stg2_0 ((insOf m ρ).w c) ∗ stg c cc0_stg3_0 (outAt (insOf m ρ) c))

theorem before_0 (c : Dev nD) (d) : (dats m ρ 0 c).before (0 : Fin 4) t0_0 d = (insOf m ρ).x c := by
  unfold Dat.before; rw [if_pos (fetch0_0 t0_0)]; rfl
theorem before_1 (c : Dev nD) (d) : (dats m ρ 0 c).before (1 : Fin 4) t0_0 d = (insOf m ρ).k c := by
  unfold Dat.before; rw [if_pos (fetch0_1 t0_0)]; rfl
theorem before_2 (c : Dev nD) (d) : (dats m ρ 0 c).before (2 : Fin 4) t0_0 d = (insOf m ρ).w c := by
  unfold Dat.before; rw [if_pos (fetch0_2 t0_0)]; rfl

set_option maxRecDepth 8000 in
theorem body_sound (c : Dev nD) : bodyPre m ρ c ⊢ WP c (onBufs (cc0_body (F := F))) fun _ => bodyPost m ρ c := by
  have hrun := body_run (insOf m ρ)
  unfold bodyPre Φ₀ start G'
  iintro ⟨⟨⟨⟨%K, #HR, Hlin⟩, Hcr, #HL⟩, Hsc⟩, Ho, ⟨%d0, Hx⟩, ⟨%d1, Hk⟩, ⟨%d2, Hw⟩, ⟨%d3, Hout⟩⟩
  unfold Dat.owesAt Pipeline.owesWithin
  icases Ho with ⟨%W, %hW, HO⟩
  iapply (wp_wand frame (wpE (defs₀ (F := F)) 𝒱₀ (c : Thread nD τ) none) Set.univ) $$ [Hlin Hcr Hsc HO Hx Hk Hw Hout]
  · iapply (hrun K c)
    isplitr
    · iapply (env_intro m ρ K)
      isplitr; · iexact HR
      iexact HL
    isplitl [HO]
    · unfold Debt
      iexists W
      iexact HO
    iapply (ready (insOf m ρ) c)
    isplitl [Hlin]; · iexact Hlin
    isplitl [Hcr]; · iexact Hcr
    isplitl [Hsc]; · iexact Hsc
    isplitl [Hout]; · iexists _; iexact Hout
    unfold Held
    isplitl [Hx]; · rw [before_0]; iexact Hx
    isplitl [Hk]; · rw [before_1]; iexact Hk
    rw [before_2]; iexact Hw
  iintro %_ ⟨HD, HE⟩
  ihave HE := (done (insOf m ρ) c) $$ HE
  unfold Held Debt bodyPost Φ₁ Dat.owesAt Pipeline.owesWithin
  icases HE with ⟨Hb, Hz, Hs, Hout, Hx, Hk, Hw⟩
  icases HD with ⟨%W', HO⟩
  isplitl [Hb Hz Hs]
  · isplitl [Hb]; · iexact Hb
    isplitl [Hz]; · iexact Hz
    iexact Hs
  isplitl [HO]
  · iexists W'
    isplitr; · ipureintro; exact fun _ _ => Or.inl trivial
    rw [owed_end]
    iexact HO
  isplitl [Hx]; · iexact Hx
  isplitl [Hk]; · iexact Hk
  isplitl [Hw]; · iexact Hw
  iexact Hout

set_option maxRecDepth 100000 in
theorem body_obligation (c : Dev nD) : BodyObligation (dats (F := F) m ρ 0 c) (defs₀ (F := F)) 𝒱₀ () Set.univ := fun t => by
  rw [show t = t0_0 from fin_N0 t, bigSep_W0, bigSep_W0]
  exact body_sound m ρ c

/-! ## The launch -/

theorem share_full (c : Dev nD) (w : Fin cfg0.W) : (dats m ρ 0 c).share w = fullShare := by unfold Dat.share; split <;> rfl

/-- The ghost state at launch: the staging cells', and the schedule's. -/
def u₀ : UU := (initOf (Pipeline.cells cfgs cellOf_inj) (Pipeline.launchToks cfgs cellOf_inj), initOf allCells allToks)

/-- A device's part of the schedule's ghost state at launch. -/
def G (c : Dev nD) : sProp 𝕄 :=
  iprop((bigSep Finset.univ fun k : CIx => roundState ER (Rd (insOf m ρ)) (kcell (c, k)) 0)
    ∗ (bigSep Finset.univ fun k : CIx => at0 (kcell (c, k))) ∗ (bigSep Finset.univ fun k : CIx => reached ER (kcell (c, k)) 0) ∗ toks c)

theorem toks_eq : bigSep allToks (fun x => (dutyTok ER x.1 x.2.1 x.2.2 : sProp 𝕄)) = bigSep Finset.univ fun c : Dev nD => toks c := by
  unfold allToks
  rw [bigSep_map, bigSep_univ_prod]
  refine bigSep_congr fun c _ => ?_
  unfold toks
  rw [bigSep_univ_sum, ← bigSep_arr (F := F) fun a h r => dutyTok ER (dCell a c h r) 0 0]
  rfl

theorem fund_cells : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  iintro HX
  imod (Rounds.fund ER (Rd (insOf m ρ)) allCells allToks) $$ HX with ⟨Hst, Hr, Hat, Htok⟩
  imodintro
  ihave Hst := (Entails.of_eq (hX fun g => roundState ER (Rd (insOf m ρ)) g 0)) $$ Hst
  ihave Hat := (Entails.of_eq (hX fun g => atPos ER g 0 ∅ 0)) $$ Hat
  ihave Hr := (Entails.of_eq (hX fun g => reached ER g 0)) $$ Hr
  ihave Htok := (Entails.of_eq (toks_eq (F := F))) $$ Htok
  unfold G; simp only [bigSep_sep']
  isplitl [Hst]; · iexact Hst
  isplitl [Hat]; · iexact Hat
  isplitl [Hr]; · iexact Hr
  iexact Htok

theorem ownSems0_zeros (c : Dev nD) :
    (Pipeline.ownSems0 (Ix := Unit) (Name := ℕ) (U := UU) (Lvl := ℕ) (Val := Elt F) (τ := τ) osem c : sProp 𝕄) = zeros c := by
  unfold Pipeline.ownSems0 zeros; rfl

theorem unscopedSems0_bar (c : Dev nD) : (unscopedSems0 c : sProp 𝕄) = semVal (barCell c) 0 := by
  unfold unscopedSems0; rw [bigSep_eq_bigSepL_of_eq [SemLoc.reg barS] (by decide +kernel) (by decide)]; rfl

/-- A device's counters, all zero. -/
theorem sems_cells (c : Dev nD) : iprop(zeros (F := F) c ∗ semVal (barCell c) 0) ⊢ (bigSep Finset.univ fun k : CIx => semVal (kcell (c, k)) 0 : sProp 𝕄) := by
  have h : (bigSep Finset.univ fun k : CIx => semVal (kcell (c, k)) 0 : sProp 𝕄)
      = iprop((bigSep Finset.univ fun u : Unit => semVal (kcell (c, .inl u)) 0) ∗ bigSep Finset.univ fun x => semVal (kcell (c, .inr x)) 0) := bigSep_univ_sum _
  rw [h, show (Finset.univ : Finset Unit) = {()} from rfl, bigSep_singleton]
  unfold zeros
  exact sep_comm.1

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd (insOf m ρ)) κ (kcell (c, k))))
          ∗ (bigSep Finset.univ fun k : CIx => at0 (kcell (c, k))) ∗ (bigSep Finset.univ fun k : CIx => reached ER (kcell (c, k)) 0) ∗ toks c) := by
  rw [ownSems0_zeros, unscopedSems0_bar]
  unfold G
  iintro ⟨Hz, Hb, Hst, Hat, Hr, Htok⟩
  ihave Hv := (sems_cells (F := F) c) $$ [Hz Hb]
  · isplitl [Hz] <;> iassumption
  imod (show iprop((bigSep Finset.univ fun k : CIx => semVal (kcell (c, k)) 0) ∗ bigSep Finset.univ fun k : CIx => roundState ER (Rd (insOf m ρ)) (kcell (c, k)) 0)
      ⊢ (|={Set.univ}=> bigSep Finset.univ fun k => iprop(∃ κ : ℕ, cellInv ER (Rd (insOf m ρ)) κ (kcell (c, k))) : sProp 𝕄) from by
        rw [← bigSep_sep']
        exact (bigSep_mono fun k _ => (Rounds.body_intro ER (Rd (insOf m ρ)) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

/-- What every device may know goes to each of them. -/
theorem bigSep_share {T : Type} [DecidableEq T] {S : Finset T} {R : sProp (MT nD τ sig Unit (Elt F) ℕ UU ℕ)} [BI.Persistent R]
    {Φ Ψ : T → sProp (MT nD τ sig Unit (Elt F) ℕ UU ℕ)} (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (insOf m ρ)) κ (kcell (c, k))))
          ∗ (bigSep Finset.univ fun k : CIx => at0 (kcell (c, k))) ∗ (bigSep Finset.univ fun k : CIx => reached ER (kcell (c, k)) 0) ∗ toks c) : sProp 𝕄)
      ⊢ bigSep Finset.univ (G' m ρ) := by
  rw [bigSep_sep', bigSep_sep', bigSep_sep', ← bigSep_univ_prod (fun ck : Dev nD × CIx => iprop(∃ κ : ℕ, cellInv ER (Rd (insOf m ρ)) κ (kcell ck))),
    ← bigSep_univ_prod (fun ck : Dev nD × CIx => (reached ER (kcell ck) 0 : sProp 𝕄)), bigSep_congr fun (c : Dev nD) _ => stand_eq (F := F) c]
  iintro ⟨HI, Hat, #HR, Htok⟩
  ihave HK := (BI.bigSep_exists_pi Finset.univ (fun (ck : Dev nD × CIx) (κ : ℕ) => (cellInv ER (Rd (insOf m ρ)) κ (kcell ck) : sProp 𝕄))) $$ HI
  icases HK with ⟨%K, #HI⟩
  ihave Htk := (toks_around (F := F)) $$ Htok
  iapply (bigSep_share (R := records m ρ K) (Φ := linear) (Ψ := G' m ρ) fun c _ => by
    unfold G'; iintro ⟨H1, H2⟩; iexists K; isplitl [H1] <;> iassumption)
  isplitr
  · iapply (show iprop((bigSep Finset.univ fun ck : Dev nD × CIx => (cellInv ER (Rd (insOf m ρ)) (K ck) (kcell ck) : sProp 𝕄))
      ∗ bigSep Finset.univ fun ck : Dev nD × CIx => reached ER (kcell ck) 0) ⊢ records m ρ K from Entails.of_eq (by unfold records; rw [bigSep_sep']))
    isplitr; · iexact HI
    iexact HR
  · iapply (show iprop((bigSep Finset.univ fun c : Dev nD => stand c) ∗ bigSep Finset.univ fun c : Dev nD => payToks c)
      ⊢ (bigSep Finset.univ fun c : Dev nD => linear c : sProp 𝕄) from Entails.of_eq (by unfold linear; rw [bigSep_sep']))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start creds0
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratches
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_zeros, unscopedSems0_bar]
  unfold Φ₁ scratches
  exact BIBase.Entails.rfl

theorem lev_stage (s : DmaSem sig) (h : ∀ x, osem x ≠ .dma s) : lev (.dma s) = 0 := by
  unfold lev ix
  rw [if_neg (fun hh => by cases hh), dif_neg fun ⟨x, hx⟩ => h x hx]

/-- The staging transfers may be waited for at any time. -/
theorem waits (c : Dev nD) : (levAts L lv : sProp 𝕄) ⊢ Pipeline.cellsWaits cfgs (dats m ρ) () 0 c :=
  Pipeline.cellsWaits_intro cfgs (dats m ρ) () 0 c fun w s t => by
    rcases t with ⟨_ | t, ht⟩
    · exact mayWait c _ 0 0 0 0 (Nat.le_of_eq (lev_stage _ fun x => ownSemFacts.disj x w s)) (.inl (by decide)) (.inl (by decide)) (.inl (by decide))
    · rw [show (dats m ρ 0 c).owed ⟨t + 1, ht⟩ = 0 from rfl, MayWait_zero]
      iintro -; iempintro

/-! ## The run -/

def finalA (c : Dev nD) (w : Fin cfg0.W) : Buf (Elt F) ((cfg0.win w).arr.view.loc (c : Thread nD τ)) := (dats m ρ 0 c).arrAt w cfg0.N

set_option maxRecDepth 100000 in
theorem run_arrays : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Scatter
-- ==== Proof.Result.lean ====
/-
# What the program leaves

The argument arrays as they were, every counter at zero, and on each device the result array that the devices' computed
blocks make up.
-/
module

public import proofs.«01_k».proof.Proof.Launch

@[expose] public section

noncomputable section

namespace Cert.Scatter

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-- The window on `x` is the whole of it. -/
theorem x_whole (f : Vec F S4x512x256 .f32) : (win0_0.blk t0_0).view.read (Elt F) f = f :=
  funext fun i => congrArg f (funext fun a => Fin.ext (by fin_cases a <;> exact (Nat.zero_add _).trans (Nat.one_mul _)))

theorem k_whole (f : Vec F S4x256 .f32) : (win0_1.blk t0_0).view.read (Elt F) f = f :=
  funext fun i => congrArg f (funext fun a => Fin.ext (by fin_cases a <;> exact (Nat.zero_add _).trans (Nat.one_mul _)))

theorem w_whole (f : Vec F S256x256 .f32) : (win0_2.blk t0_0).view.read (Elt F) f = f :=
  funext fun i => congrArg f (funext fun a => Fin.ext (by fin_cases a <;> exact (Nat.zero_add _).trans (Nat.one_mul _)))

theorem out_whole (f : Vec F S4x512x256 .f32) : (win0_3.blk t0_0).view.read (Elt F) f = f :=
  funext fun i => congrArg f (funext fun a => Fin.ext (by fin_cases a <;> exact (Nat.zero_add _).trans (Nat.one_mul _)))

theorem out_mem (i : S4x512x256.Idx) : i ∈ (win0_3.blk t0_0).view.set :=
  (show (win0_3.blk t0_0).view.emb i = i from
    funext fun a => Fin.ext (by fin_cases a <;> exact (Nat.zero_add _).trans (Nat.one_mul _))) ▸ View.emb_mem_set _ i

/-- The result array of a device after the run. -/
theorem final_out (c : Dev nD) : finalA m ρ c (3 : Fin 4) = outAt (insOf m ρ) c :=
  (dats m ρ 0 c).arrAt_eq_of_cover (3 : Fin 4) (outAt (insOf m ρ) c)
    (fun t _ => by
      obtain rfl := fin_N0 t
      exact (out_whole (F := F) _).symm)
    (fun i => ⟨t0_0, flush0_3 _, out_mem i⟩)

/-- The argument arrays of a device after the run. -/
theorem final_in (c : Dev nD) (w : Fin 4) (h : (win0 w).isOut = false) : finalA m ρ c w = m ((win0 w).arr.view.loc (c : Thread nD τ)) :=
  (dats (F := F) m ρ 0 c).arrAt_in w h _

/-- The devices' input blocks, read straight from the initial memory. -/
def ins : Ins F where
  x c := m ((c : Thread nD τ).loc main_arg0)
  k c := m ((c : Thread nD τ).loc main_arg1)
  w c := m ((c : Thread nD τ).loc main_arg2)

theorem insOf_eq : insOf m ρ = ins m := by
  unfold insOf ins s₀
  simp only [Ins.mk.injEq]
  exact ⟨funext fun c => x_whole _, funext fun c => k_whole _, funext fun c => w_whole _⟩

/-- On eight devices, for any float values, from any memory with all counters at zero: every execution of the program
    ends, each device's result array made of the blocks that the schedule computes, its argument arrays unchanged, and
    every counter at zero. -/
theorem run_main : θ_run defs (onTc (τ := τ) (main (F := F))) ⟨m, fun _ => 0, ρ⟩
    (fun r => (∀ c : Dev nD, r.2.mem ((c : Thread nD τ).loc main_v1) = outAt (ins m) c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2))
      ∧ r.2.sem = fun _ => 0) :=
  (θ_run defs _ _).mono (fun r h => ⟨fun c => ⟨(h.1 c (3 : Fin 4)).trans ((final_out m ρ c).trans (by rw [insOf_eq])),
    (h.1 c (0 : Fin 4)).trans (final_in m ρ c 0 rfl), (h.1 c (1 : Fin 4)).trans (final_in m ρ c 1 rfl), (h.1 c (2 : Fin 4)).trans (final_in m ρ c 2 rfl)⟩, h.2⟩)
    (run_arrays m ρ)

end Cert.Scatter
-- ==== Proof.Sums.lean ====
/-
# The mathematics

The function that both programs compute over the extended reals, as a plain formula, and the cutting of its sum over the
2048 channels into the devices' 256 channels each.
-/
module

public import Idealize.ShloMosaic.PureOps.Ideal
public import Mathlib.Algebra.BigOperators.Fin
public import Mathlib.Logic.Equiv.Fin.Basic

@[expose] public section

noncomputable section

namespace Cert.Scatter

open Idealize.ShloMosaic

/-- The sequence `X`, `n` steps earlier than `s`: zero before its start. -/
def back (X : Fin 512 → EReal) (n : ℕ) (s : Fin 512) : EReal := if h : s.val < n then 0 else X ⟨s.val - n, by omega⟩

/-- The causal convolution of the sequence `X` with the four taps `K`. -/
def conv (X : Fin 512 → EReal) (K : Fin 4 → EReal) (s : Fin 512) : EReal :=
  back X 3 s * K 0 + back X 2 s * K 1 + back X 1 s * K 2 + X s * K 3

/-- The gated value `y / (1 + e⁻ʸ)`. -/
def gate (y : EReal) : EReal := Ideal.div y (1 + Ideal.exp (-y))

theorem exp_nonneg (y : EReal) : 0 ≤ Ideal.exp y := by
  induction y using EReal.rec with
  | bot => exact le_rfl
  | top => exact le_top
  | coe r => exact EReal.coe_nonneg.mpr (Real.exp_pos r).le

/-- The gate as a product with the logistic function. -/
theorem mul_logistic (y : EReal) : y * Ideal.logistic y = gate y := by
  have h : (1 : EReal) + Ideal.exp (-y) ≠ 0 := (lt_of_lt_of_le zero_lt_one (le_add_of_nonneg_right (exp_nonneg _))).ne'
  unfold gate Ideal.logistic Ideal.div
  rw [if_neg h, if_neg h, one_mul]

/-- The kernel adds the newest tap first. -/
theorem conv_newest (X : Fin 512 → EReal) (K : Fin 4 → EReal) (s : Fin 512) :
    X s * K 3 + back X 1 s * K 2 + back X 2 s * K 1 + back X 3 s * K 0 = conv X K s := by
  unfold conv
  ac_rfl

/-- Channel `j` of device `e`. -/
def chan (e : Fin 8) (j : Fin 256) : Fin 2048 := ⟨e.val * 256 + j.val, by omega⟩

/-- A sum over all channels is the sum over the devices of the sums over their channels. -/
theorem sum_chan (f : Fin 2048 → EReal) : ∑ ch, f ch = ∑ e : Fin 8, ∑ j : Fin 256, f (chan e j) := by
  rw [← Fintype.sum_prod_type' (fun e j => f (chan e j))]
  refine (Fintype.sum_equiv (finProdFinEquiv (m := 8) (n := 256)) _ _ fun p => congrArg f (Fin.ext ?_)).symm
  show p.1.val * 256 + p.2.val = p.2.val + 256 * p.1.val
  omega

end Cert.Scatter
-- ==== Proof.Value.lean ====
/-
# What the kernel computes over the extended reals

Each entry of the result, on every device, is the sum over all devices of their partial products.
-/
module

public import proofs.«01_k».proof.Proof.Split
public import proofs.«01_k».proof.Proof.Sums
public import Idealize.ShloMosaic.Lib.Pointwise
public import Idealize.ShloMosaic.Lib.ValueIdx

@[expose] public section

noncomputable section

namespace Cert.Scatter

open Cert.KernelIdeal Cert.KernelIdeal.Gen
open Idealize.ShloMosaic Idealize.SL.Sem

variable (I : Ins Ideal)

/-- Entry `(s, o)` of the partial product of device `e` for the batch of `d`. -/
theorem near_at (e d : Dev nD) (s : Fin 512) (o : Fin 256) : I.near e d (ix2 s o)
    = ∑ ch : Fin 256, gate (conv (fun s' => I.xv e d (ix3 0 s' ch)) (fun t => I.kv e t (ix2 0 ch)) s) * I.wv e (ix2 ch o) := by
  unfold Ins.near
  simp only [← conv_newest, ← mul_logistic, back]
  pointwise [k0_pay15, k0_pay13, k0_pay14, k0_pay1]

/-- Over the extended reals the three formats of the partial product are one. -/
theorem nearS_eq (e d : Dev nD) : I.nearS e d = I.near e d := by
  unfold Ins.nearS Ins.near
  pointwise [k0_pay15, k0_pay16]

theorem sent_at (e d : Dev nD) (s : Fin 512) (o : Fin 256) : I.sent e d (ix2 s o) = I.near e d (ix2 s o) := by
  unfold Ins.sent Ins.near
  pointwise [k0_pay15, k0_pay17]

/-- Row `i` of chunk `(d, h)`, as a row of the batch of `d`. -/
def crow (d : Dev nD) (h : Fin 2) (i : Fin 128) : Fin 512 :=
  ⟨lrow d + 128 * h.val + i.val, by have : lrow d + 128 * h.val + 128 ≤ 512 := qOff_inb d h 0; omega⟩

theorem qR_at (d : Dev nD) (h : Fin 2) (i : Fin 128) (o : Fin 256) : (qR (d, h)).emb (ix2 i o) = ix2 (crow d h i) o := by
  funext a
  apply Fin.ext
  fin_cases a
  · show lrow d + 128 * h.val + 1 * i.val = lrow d + 128 * h.val + i.val
    omega
  · show 0 + 1 * o.val = o.val
    omega

theorem part_at (e d : Dev nD) (h : Fin 2) (i : Fin 128) (o : Fin 256) : I.part e d h (ix2 i o) = I.near e d (ix2 (crow d h i) o) := by
  unfold Ins.part
  rw [qR_at, sent_at]

theorem mine_at (d : Dev nD) (h : Fin 2) (i : Fin 128) (o : Fin 256) : I.mine d h (ix2 i o) = I.near d d (ix2 (crow d h i) o) := by
  unfold Ins.mine
  rw [nearS_eq, qR_at]

/-- A sum over all devices, as a device first adds up its own part and then its peers'. -/
theorem sum_mates (f : Dev nD → EReal) (d : Dev nD) :
    f d + f (peer 0 d) + f (peer 1 d) + f (peer 2 d) + f (peer 3 d) + f (peer 4 d) + f (peer 5 d) + f (peer 6 d) = ∑ e, f e := by
  rw [← (mates d).sum_comp f, Fintype.sum_sum_type, Fin.sum_univ_seven]
  show _ = _ + ∑ _ : Unit, f d
  rw [Finset.univ_unique, Finset.sum_singleton]
  show _ = f (peer 0 d) + f (peer 1 d) + f (peer 2 d) + f (peer 3 d) + f (peer 4 d) + f (peer 5 d) + f (peer 6 d) + f d
  ac_rfl

/-- Each entry of a chunk is the sum of all partial products there, on the chunk's owner and on every other device. -/
theorem outv_at (c d : Dev nD) (h : Fin 2) (i : Fin 128) (o : Fin 256) :
    I.outv c d h (ix3 0 i o) = ∑ e : Dev nD, I.near e d (ix2 (crow d h i) o) := by
  rw [← sum_mates _ d]
  rw [← mine_at]
  simp only [← part_at]
  unfold Ins.outv
  split
  · subst d
    unfold Ins.ownv Ins.sum5
    pointwise [k0_pay18, k0_pay19, k0_pay20, k0_pay22]
  · unfold Ins.resv Ins.sum5
    pointwise [k0_pay18, k0_pay19, k0_pay20, k0_pay21, k0_pay28]

end Cert.Scatter
-- ==== Proof.RefValue.lean ====
/-
# What the reference computes over the extended reals
-/
module

public import proofs.«01_k».proof.Proof.Sums
public import proofs.«01_k».proof.Proof.Gen.ReferenceIdeal.Run
public import Idealize.ShloMosaic.Lib.Pointwise
public import Idealize.ShloMosaic.Lib.ValueIdx

@[expose] public section

noncomputable section

namespace Cert.Scatter

open Cert.ReferenceIdeal
open Idealize.ShloMosaic Idealize.SL.Sem

variable (m : (ℓ : Loc nD τ sig) → Buf (Elt Ideal) ℓ)

/-- The three arguments of the reference. -/
def wholeX : Vec Ideal S4x512x2048 .f32 := m (((0 : Dev nD).tc : Thread nD τ).loc main_arg0)
def wholeK : Vec Ideal S4x2048 .f32 := m (((0 : Dev nD).tc : Thread nD τ).loc main_arg1)
def wholeW : Vec Ideal S2048x256 .f32 := m (((0 : Dev nD).tc : Thread nD τ).loc main_arg2)

/-- A row of the padded sequence, `p` rows after the start of the window: the sequence `3 - p` steps earlier. -/
theorem back_padded (X : Fin 512 → EReal) (p n : ℕ) (h : p + n = 3) (s : Fin 512) :
    (if _h : p + s.val < 3 then 0 else X ⟨p + s.val - 3, by omega⟩) = back X n s := by
  unfold back
  split
  · rw [dif_pos (by omega)]
  · rw [dif_neg (by omega)]
    exact congrArg X (Fin.ext (by dsimp only; omega))

/-- Entry `(b, s, o)` of the reference's result. -/
theorem reference_at (b : Fin 4) (s : Fin 512) (o : Fin 256) : Value.res_main_v36 (F := Ideal) m 0 (ix3 b s o)
    = ∑ ch : Fin 2048, gate (conv (fun s' => wholeX m (ix3 b s' ch)) (fun t => wholeK m (ix2 t ch)) s) * wholeW m (ix2 ch o) := by
  unfold gate conv back wholeX wholeK wholeW
  pointwise [Value.res_main_v36]
  show @Eq EReal _ _
  refine Finset.sum_congr rfl fun ch _ => ?_
  rw [back_padded (fun s' => m (((0 : Dev nD).tc : Thread nD τ).loc main_arg0) (ix3 b s' ch)) 1 2 rfl s,
    back_padded (fun s' => m (((0 : Dev nD).tc : Thread nD τ).loc main_arg0) (ix3 b s' ch)) 2 1 rfl s]
  rfl

end Cert.Scatter
-- ==== Proof.Equal.lean ====
/-
# The kernel and the reference compute the same

When each device holds its 256 channels of the three arguments of the reference, the result of every device is the
reference's result.
-/
module

public import proofs.«01_k».proof.Proof.Result
public import proofs.«01_k».proof.Proof.Value
public import proofs.«01_k».proof.Proof.RefValue
public import Idealize.ShloMosaic.Lib.Layout

@[expose] public section

noncomputable section

namespace Cert.Scatter

open Cert.KernelIdeal Cert.KernelIdeal.Gen
open Idealize.ShloMosaic Idealize.SL.Sem

variable (I : Ins Ideal) (m : (ℓ : Loc Cert.ReferenceIdeal.nD Cert.ReferenceIdeal.τ Cert.ReferenceIdeal.sig) → Buf (Elt Ideal) ℓ)

/-- Every device holds its channels of the whole arguments. -/
structure Holds : Prop where
  x : ∀ e : Dev nD, I.x e = Layout.block ⟨3, ![4, 512, 256]⟩ ⟨3, ![4, 512, 2048]⟩ 2 8 e (wholeX m)
  k : ∀ e : Dev nD, I.k e = Layout.block ⟨2, ![4, 256]⟩ ⟨2, ![4, 2048]⟩ 1 8 e (wholeK m)
  w : ∀ e : Dev nD, I.w e = Layout.block ⟨2, ![256, 256]⟩ ⟨2, ![2048, 256]⟩ 0 8 e (wholeW m)

/-- The batch of `d`, as an index. -/
def batch (d : Dev nD) : Fin 4 := ⟨bat d, by have : bat d + 1 ≤ 4 := xOff_inb d 0; omega⟩

variable {I m} (H : Holds I m)
include H

theorem xv_at (e d : Dev nD) (s : Fin 512) (ch : Fin 256) : I.xv e d (ix3 0 s ch) = wholeX m (ix3 (batch d) s (chan e ch)) := by
  unfold Ins.xv
  rw [H.x, Layout.block_apply]
  congr 1
  funext a
  apply Fin.ext
  fin_cases a
  · show bat d + 1 * 0 = bat d
    omega
  · show 0 + 1 * s.val = s.val
    omega
  · show e.val * 256 + (0 + 1 * ch.val) = e.val * 256 + ch.val
    omega

theorem kv_at (e : Dev nD) (t : Fin 4) (ch : Fin 256) : I.kv e t (ix2 0 ch) = wholeK m (ix2 t (chan e ch)) := by
  unfold Ins.kv
  rw [H.k, Layout.block_apply]
  congr 1
  funext a
  apply Fin.ext
  fin_cases a
  · show t.val + 1 * 0 = t.val
    omega
  · show e.val * 256 + (0 + 1 * ch.val) = e.val * 256 + ch.val
    omega

theorem wv_at (e : Dev nD) (ch o : Fin 256) : I.wv e (ix2 ch o) = wholeW m (ix2 (chan e ch) o) := by
  unfold Ins.wv
  rw [H.w, Layout.block_apply]
  congr 1
  funext a
  apply Fin.ext
  fin_cases a
  · show e.val * 256 + (0 + 1 * ch.val) = e.val * 256 + ch.val
    omega
  · show 0 + 1 * o.val = o.val
    omega

/-- The partial products of all devices add up to the reference's result. -/
theorem sum_near (d : Dev nD) (s : Fin 512) (o : Fin 256) :
    ∑ e : Dev nD, I.near e d (ix2 s o) = Cert.ReferenceIdeal.Value.res_main_v36 (F := Ideal) m 0 (ix3 (batch d) s o) := by
  rw [reference_at, sum_chan]
  refine Finset.sum_congr rfl fun e _ => ?_
  rw [near_at]
  simp only [xv_at H, kv_at H, wv_at H]

omit H in
/-- Entry `(i, o)` of block `(d, h)`, in the whole result. -/
theorem oR_at (d : Dev nD) (h : Fin 2) (i : Fin 128) (o : Fin 256) : (oR (d, h)).emb (ix3 0 i o) = ix3 (batch d) (crow d h i) o := by
  funext a
  apply Fin.ext
  fin_cases a
  · show bat d + 1 * 0 = bat d
    omega
  · show lrow d + 128 * h.val + 1 * i.val = lrow d + 128 * h.val + i.val
    omega
  · show 0 + 1 * o.val = o.val
    omega

/-- Every device ends with the reference's result. -/
theorem outAt_eq (c : Dev nD) : outAt I c = Cert.ReferenceIdeal.Value.res_main_v36 (F := Ideal) m 0 := by
  funext i
  obtain ⟨⟨⟨d, h⟩, j⟩, rfl⟩ := out_at i
  obtain ⟨i, o, rfl⟩ : ∃ (i : Fin 128) (o : Fin 256), j = ix3 0 i o :=
    ⟨j 1, j 2, funext fun a => by
      fin_cases a
      · exact Fin.ext (Nat.lt_one_iff.mp (j 0).isLt)
      · rfl
      · rfl⟩
  rw [outAt_emb, outv_at, sum_near H, oR_at]

end Cert.Scatter
-- ==== Proof.lean ====
/-
# The certificate

Every claim of `Cert.Claim` from the modules under `Proof/`: the program's run on all eight devices (`Result.lean`), the
reference's run, and the equality of what the two compute over the extended reals.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Result
public import proofs.«01_k».proof.Proof.Equal

@[expose] public section

noncomputable section

namespace Cert.Proof

open Idealize.ShloMosaic Idealize.SL.Sem

/-- The idealized kernel ends with its arguments unchanged and every counter at zero. -/
theorem frame_ideal : Cert.quiescent_KernelIdeal := fun m ρ _ =>
  (θ_run Cert.KernelIdeal.defs _ _).mono (fun _ h => ⟨fun c => (h.1 c).2, h.2⟩) (Cert.Scatter.run_main (F := Ideal) m ρ)

/-- The two texts of the kernel have the same bodies. -/
theorem bodies {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  obtain ⟨_ | n, hn⟩ := l
  · exact funext fun ⟨t, s⟩ => rfl
  · exact absurd hn (Nat.not_lt.2 (Nat.le_add_left _ _))

theorem tables {F : FTy → Type} [FloatOps F] : Cert.Kernel.defs (F := F) = Cert.KernelIdeal.defs (F := F) :=
  congrArg (Pipeline.defs Cert.KernelIdeal.pcfgs) bodies

set_option maxRecDepth 100000 in
/-- The kernel as printed, whose text is the same, ends like the idealized one when read at machine floats. -/
theorem frame_kernel : Cert.quiescent_Kernel := fun m ρ _ => by
  rw [tables]
  exact (θ_run Cert.KernelIdeal.defs _ _).mono (fun _ h => ⟨fun c => (h.1 c).2, h.2⟩) (Cert.Scatter.run_main (F := Bits) m ρ)

/-- The reference ends with its arguments unchanged; it has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- From the blocks of the reference's arguments, every device ends with the reference's result. -/
theorem algebraic : Cert.algebraic_KernelIdeal_ReferenceIdeal := fun m ρ m' ρ' _ h =>
  have H : Cert.Scatter.Holds (Cert.Scatter.ins m) m' := ⟨fun e => (h e).1, fun e => (h e).2.1, fun e => (h e).2.2⟩
  ⟨Cert.ReferenceIdeal.Value.res_main_v36 (F := Ideal) m' 0,
    (θ_run Cert.KernelIdeal.defs _ _).mono (fun _ r c => ⟨((r.1 c).1).trans (Cert.Scatter.outAt_eq H c), (r.1 c).2⟩)
      (Cert.Scatter.run_main (F := Ideal) m ρ),
    (θ_run Cert.ReferenceIdeal.defs _ _).mono (fun _ r => r 0) (Cert.ReferenceIdeal.Value.run m' ρ')⟩

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
